-- ==== Defs.lean ====
def Pre_Kernel [hPre_indices_in_table : Cert.Pre_indices_in_table.Facts] (m : (ℓ : Loc Cert.Kernel.nD Cert.Kernel.τ Cert.Kernel.sig) → Buf (Elt Bits) ℓ) : Prop :=
  ∀ c : Dev Cert.Kernel.nD,
    (Cert.Pre_indices_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_table : Cert.Pre_indices_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_table [hPre_indices_in_table : Cert.Pre_indices_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_table : Cert.Pre_indices_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_table : Cert.Pre_indices_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_in_table [hReferenceIdeal : Cert.ReferenceIdeal.Facts] [hPre_indices_in_table : Cert.Pre_indices_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "w_neg" .f32 0x33CCCCCD#32 ((10485760⁻¹ : ℝ) : EReal)

def algebraic_KernelIdeal_ReferenceIdeal [hKernelIdeal : Cert.KernelIdeal.Facts] [hReferenceIdeal : Cert.ReferenceIdeal.Facts] [hPre_indices_in_table : Cert.Pre_indices_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_table : Cert.Pre_indices_in_table.Facts),
    quiescent_Kernel (hKernel := hKernel) (hPre_indices_in_table := hPre_indices_in_table)
    ∧ quiescent_KernelIdeal (hKernelIdeal := hKernelIdeal) (hPre_indices_in_table := hPre_indices_in_table)
    ∧ quiescent_ReferenceIdeal (hReferenceIdeal := hReferenceIdeal)
    ∧ quiescent_ReferenceIdeal_pre_indices_in_table (hReferenceIdeal := hReferenceIdeal) (hPre_indices_in_table := hPre_indices_in_table)
    ∧ preserves_Kernel_KernelIdeal
    ∧ algebraic_KernelIdeal_ReferenceIdeal (hKernelIdeal := hKernelIdeal) (hReferenceIdeal := hReferenceIdeal) (hPre_indices_in_table := hPre_indices_in_table)
-- ==== Pre_indices_in_table.lean ====
abbrev S1024 : Shape := ⟨1, ![1024]⟩
abbrev S1024x5 : Shape := ⟨2, ![1024, 5]⟩
abbrev S1000000x64 : Shape := ⟨2, ![1000000, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5 : S_.BroadcastsInDim S1024x5 (![] : Fin 0 → Fin S1024x5.rank)
  reducesTo_S1024x5_S_d0_1 : S1024x5.ReducesTo [0, 1] S_

variable [Facts]

def fn_part1 {F : FTy → Type} [FloatOps F] (main_arg2 : IVec S1024x5 32) (main_v12 : IVec S_ 1) (main_v14 : IVec S1024x5 1) (main_v15 : IVec S1024x5 32) : IVec S_ 1 :=
  let main_v16 : IVec S1024x5 1 := cmpi .slt main_arg2 main_v15
  let main_v17 : IVec S1024x5 1 := andi main_v14 main_v16
  let main_c_7 : IVec S_ 1 := constantI S_ 1 1#1
  let main_v18 : IVec S_ 1 := (fun x v => Host.reduce IntOp.andi x v reducesTo_S1024x5_S_d0_1 h_S_) main_v17 main_c_7
  let main_v19 : IVec S_ 1 := andi main_v12 main_v18
  main_v19

def fn {F : FTy → Type} [FloatOps F] (main_arg0 : IVec S1024 32) (main_arg1 : IVec S1024 32) (main_arg2 : IVec S1024x5 32) (main_arg3 : FVec F S1000000x64 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 1000000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg1 main_v6
  let main_c_3 : IVec S_ 32 := constantI S_ 32 1000000#32
  let main_v8 : IVec S1024 32 := broadcastInDim S1024 ![] bcast_S_S1024 main_c_3
  let main_v9 : IVec S1024 1 := cmpi .slt main_arg1 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_c_5 : IVec S_ 32 := constantI S_ 32 0#32
  let main_v13 : IVec S1024x5 32 := broadcastInDim S1024x5 ![] bcast_S_S1024x5 main_c_5
  let main_v14 : IVec S1024x5 1 := cmpi .sge main_arg2 main_v13
  let main_c_6 : IVec S_ 32 := constantI S_ 32 1000000#32
  let main_v15 : IVec S1024x5 32 := broadcastInDim S1024x5 ![] bcast_S_S1024x5 main_c_6
  fn_part1 (F := F) main_arg2 main_v12 main_v14 main_v15
-- ==== Kernel.lean ====
abbrev S1024 : Shape := ⟨1, ![1024]⟩
abbrev S1024x5 : Shape := ⟨2, ![1024, 5]⟩
abbrev S1000000x64 : Shape := ⟨2, ![1000000, 64]⟩
abbrev S5120 : Shape := ⟨1, ![5120]⟩
abbrev S7168 : Shape := ⟨1, ![7168]⟩
abbrev S7168x64 : Shape := ⟨2, ![7168, 64]⟩
abbrev S512 : Shape := ⟨1, ![512]⟩
abbrev S3584x64 : Shape := ⟨2, ![3584, 64]⟩
abbrev S_ : Shape := ⟨0, ![]⟩
abbrev S1 : Shape := ⟨1, ![1]⟩
abbrev S1x64 : Shape := ⟨2, ![1, 64]⟩
abbrev S1x1 : Shape := ⟨2, ![1, 1]⟩
abbrev S1024x64 : Shape := ⟨2, ![1024, 64]⟩
abbrev S512x64 : Shape := ⟨2, ![512, 64]⟩
abbrev S1024x512 : Shape := ⟨2, ![1024, 512]⟩
abbrev S1x1024x512 : Shape := ⟨3, ![1, 1024, 512]⟩
abbrev S1x1x1 : Shape := ⟨3, ![1, 1, 1]⟩

abbrev nBuf : Table → Nat
  | .hbm => 9
  | .local .tc .vmem => 4
  | .shared => 1
  | .local .scScalar .smem => 1
  | _ => 0

abbrev bufTy : (tb : Table) → Fin (nBuf tb) → BufTy
  | .hbm, ⟨0, _⟩ => ⟨S1024, .i32⟩
  | .hbm, ⟨1, _⟩ => ⟨S1024, .i32⟩
  | .hbm, ⟨2, _⟩ => ⟨S1024x5, .i32⟩
  | .hbm, ⟨3, _⟩ => ⟨S1000000x64, .f32⟩
  | .hbm, ⟨4, _⟩ => ⟨S5120, .i32⟩
  | .hbm, ⟨5, _⟩ => ⟨S7168, .i32⟩
  | .hbm, ⟨6, _⟩ => ⟨S7168x64, .f32⟩
  | .hbm, ⟨7, _⟩ => ⟨S1x1, .f32⟩
  | .hbm, ⟨8, _⟩ => ⟨S_, .f32⟩
  | .local .tc .vmem, ⟨0, _⟩ => ⟨S1024x64, .f32⟩
  | .local .tc .vmem, ⟨1, _⟩ => ⟨S512x64, .f32⟩
  | .local .tc .vmem, ⟨2, _⟩ => ⟨S512x64, .f32⟩
  | .local .tc .vmem, ⟨3, _⟩ => ⟨S1x1, .f32⟩
  | .shared, ⟨0, _⟩ => ⟨S3584x64, .f32⟩
  | .local .scScalar .smem, ⟨0, _⟩ => ⟨S512, .i32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg3_scs : Ref sig .scScalar := ⟨.hbm, 3, rfl⟩
abbrev main_v1_scs : Ref sig .scScalar := ⟨.hbm, 5, rfl⟩
abbrev main_v2_scs : Ref sig .scScalar := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc0_scratch1 : Ref sig .scScalar := ⟨.shared, 0, rfl⟩
abbrev cc0_scratch0 : Ref sig .scScalar := ⟨.smem, 0, rfl⟩
abbrev cc1_sem0_0 : DmaSem sig := 9
abbrev cc1_sem1_0 : DmaSem sig := 10
abbrev cc1_sem1_1 : DmaSem sig := 11
abbrev cc1_sem2_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 1 → Nat :=
  let arg0 : BitVec 32 := BitVec.ofNat 32 (i 0).val
  let c3584_i32 : BitVec 32 := 3584#32
  let v0 : BitVec 32 := Scalar.muli arg0 c3584_i32
  let v1 : BitVec 32 := Scalar.addi v0 c0_i32
  ![v1.toNat]
@[reducible] def k0_t1_loop : Scf.Loop 32 :=
  let c0_i32_1 : BitVec 32 := 0#32
  let c512_i32 : BitVec 32 := 512#32
  let v2 : BitVec 32 := Scalar.addi c0_i32_1 c512_i32
  let c1_i32 : BitVec 32 := 1#32
  ⟨c0_i32_1, v2, c1_i32⟩
def k0_off2 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let v22 : Index := Scalar.indexCast arg7
  ![v22.toNat]
def k0_off3 (k0_t1 : Fin k0_t1_loop.trips) : Fin 2 → Nat :=
  let c0_i32_69 : BitVec 32 := 0#32
  let c0_i32_1 : BitVec 32 := 0#32
  let c1_i32 : BitVec 32 := 1#32
  let arg7 : BitVec 32 := Scf.iv c0_i32_1 c1_i32 k0_t1
  let v24 : BitVec 32 := Scalar.addi c0_i32_69 arg7
  let c0_i32_70 : BitVec 32 := 0#32
  ![v24.toNat, 0]
def k0_off4 (v23 : BitVec 32) : Fin 2 → Nat :=
  let c0_i32_71 : BitVec 32 := 0#32
  ![v23.toNat, 0]

def k0_chk1 (v23 : BitVec 32) : Prop :=
  (∀ a, (k0_off4 v23) a + S1x64.size a ≤ S1000000x64.size a)
theorem k0_off4_inb : ∀ (v23 : BitVec 32) (k0_hw1 : k0_chk1 v23), ∀ a, (k0_off4 v23) a + S1x64.size a ≤ S1000000x64.size a := fun v23 k0_hw1 => k0_hw1

@[reducible] def k0_t2_loop : Scf.Loop 32 :=
  let c0_i32_4 : BitVec 32 := 0#32
  let c512_i32_5 : BitVec 32 := 512#32
  let v3 : BitVec 32 := Scalar.addi c0_i32_4 c512_i32_5
  let c1_i32_6 : BitVec 32 := 1#32
  ⟨c0_i32_4, v3, c1_i32_6⟩
@[reducible] def k0_t3_loop : Scf.Loop 32 :=
  let c0_i32_10 : BitVec 32 := 0#32
  let c512_i32_11 : BitVec 32 := 512#32
  let v5 : BitVec 32 := Scalar.addi c0_i32_10 c512_i32_11
  let c1_i32_12 : BitVec 32 := 1#32
  ⟨c0_i32_10, v5, c1_i32_12⟩
def k0_off5 (k0_t3 : Fin k0_t3_loop.trips) : Fin 1 → Nat :=
  let c0_i32_10 : BitVec 32 := 0#32
  let c1_i32_12 : BitVec 32 := 1#32
  let arg7 : BitVec 32 := Scf.iv c0_i32_10 c1_i32_12 k0_t3
  let v22 : Index := Scalar.indexCast arg7
  ![v22.toNat]
def k0_off6 (k0_t3 : Fin k0_t3_loop.trips) : Fin 2 → Nat :=
  let c512_i32_69 : BitVec 32 := 512#32
  let c0_i32_10 : BitVec 32 := 0#32
  let c1_i32_12 : BitVec 32 := 1#32
  let arg7 : BitVec 32 := Scf.iv c0_i32_10 c1_i32_12 k0_t3
  let v24 : BitVec 32 := Scalar.addi c512_i32_69 arg7
  let c0_i32_70 : BitVec 32 := 0#32
  ![v24.toNat, 0]
def k0_off7 (v23 : BitVec 32) : Fin 2 → Nat :=
  let c0_i32_71 : BitVec 32 := 0#32
  ![v23.toNat, 0]

def k0_chk2 (v23 : BitVec 32) : Prop :=
  (∀ a, (k0_off7 v23) a + S1x64.size a ≤ S1000000x64.size a)
theorem k0_off7_inb : ∀ (v23 : BitVec 32) (k0_hw2 : k0_chk2 v23), ∀ a, (k0_off7 v23) a + S1x64.size a ≤ S1000000x64.size a := fun v23 k0_hw2 => k0_hw2

@[reducible] def k0_t4_loop : Scf.Loop 32 :=
  let c0_i32_15 : BitVec 32 := 0#32
  let c512_i32_16 : BitVec 32 := 512#32
  let v6 : BitVec 32 := Scalar.addi c0_i32_15 c512_i32_16
  let c1_i32_17 : BitVec 32 := 1#32
  ⟨c0_i32_15, v6, c1_i32_17⟩
@[reducible] def k0_t5_loop : Scf.Loop 32 :=
  let c0_i32_20 : BitVec 32 := 0#32
  let c512_i32_21 : BitVec 32 := 512#32
  let v8 : BitVec 32 := Scalar.addi c0_i32_20 c512_i32_21
  let c1_i32_22 : BitVec 32 := 1#32
  ⟨c0_i32_20, v8, c1_i32_22⟩
def k0_off8 (k0_t5 : Fin k0_t5_loop.trips) : Fin 1 → Nat :=
  let c0_i32_20 : BitVec 32 := 0#32
  let c1_i32_22 : BitVec 32 := 1#32
  let arg7 : BitVec 32 := Scf.iv c0_i32_20 c1_i32_22 k0_t5
  let v22 : Index := Scalar.indexCast arg7
  ![v22.toNat]
def k0_off9 (k0_t5 : Fin k0_t5_loop.trips) : Fin 2 → Nat :=
  let c1024_i32_69 : BitVec 32 := 1024#32
  let c0_i32_20 : BitVec 32 := 0#32
  let c1_i32_22 : BitVec 32 := 1#32
  let arg7 : BitVec 32 := Scf.iv c0_i32_20 c1_i32_22 k0_t5
  let v24 : BitVec 32 := Scalar.addi c1024_i32_69 arg7
  let c0_i32_70 : BitVec 32 := 0#32
  ![v24.toNat, 0]
def k0_off10 (v23 : BitVec 32) : Fin 2 → Nat :=
  let c0_i32_71 : BitVec 32 := 0#32
  ![v23.toNat, 0]

def k0_chk3 (v23 : BitVec 32) : Prop :=
  (∀ a, (k0_off10 v23) a + S1x64.size a ≤ S1000000x64.size a)
theorem k0_off10_inb : ∀ (v23 : BitVec 32) (k0_hw3 : k0_chk3 v23), ∀ a, (k0_off10 v23) a + S1x64.size a ≤ S1000000x64.size a := fun v23 k0_hw3 => k0_hw3

@[reducible] def k0_t6_loop : Scf.Loop 32 :=
  let c0_i32_25 : BitVec 32 := 0#32
  let c512_i32_26 : BitVec 32 := 512#32
  let v9 : BitVec 32 := Scalar.addi c0_i32_25 c512_i32_26
  let c1_i32_27 : BitVec 32 := 1#32
  ⟨c0_i32_25, v9, c1_i32_27⟩
@[reducible] def k0_t7_loop : Scf.Loop 32 :=
  let c0_i32_30 : BitVec 32 := 0#32
  let c512_i32_31 : BitVec 32 := 512#32
  let v11 : BitVec 32 := Scalar.addi c0_i32_30 c512_i32_31
  let c1_i32_32 : BitVec 32 := 1#32
  ⟨c0_i32_30, v11, c1_i32_32⟩
def k0_off11 (k0_t7 : Fin k0_t7_loop.trips) : Fin 1 → Nat :=
  let c0_i32_30 : BitVec 32 := 0#32
  let c1_i32_32 : BitVec 32 := 1#32
  let arg7 : BitVec 32 := Scf.iv c0_i32_30 c1_i32_32 k0_t7
  let v22 : Index := Scalar.indexCast arg7
  ![v22.toNat]
def k0_off12 (k0_t7 : Fin k0_t7_loop.trips) : Fin 2 → Nat :=
  let c1536_i32_69 : BitVec 32 := 1536#32
  let c0_i32_30 : BitVec 32 := 0#32
  let c1_i32_32 : BitVec 32 := 1#32
  let arg7 : BitVec 32 := Scf.iv c0_i32_30 c1_i32_32 k0_t7
  let v24 : BitVec 32 := Scalar.addi c1536_i32_69 arg7
  let c0_i32_70 : BitVec 32 := 0#32
  ![v24.toNat, 0]
def k0_off13 (v23 : BitVec 32) : Fin 2 → Nat :=
  let c0_i32_71 : BitVec 32 := 0#32
  ![v23.toNat, 0]

def k0_chk4 (v23 : BitVec 32) : Prop :=
  (∀ a, (k0_off13 v23) a + S1x64.size a ≤ S1000000x64.size a)
theorem k0_off13_inb : ∀ (v23 : BitVec 32) (k0_hw4 : k0_chk4 v23), ∀ a, (k0_off13 v23) a + S1x64.size a ≤ S1000000x64.size a := fun v23 k0_hw4 => k0_hw4

@[reducible] def k0_t8_loop : Scf.Loop 32 :=
  let c0_i32_35 : BitVec 32 := 0#32
  let c512_i32_36 : BitVec 32 := 512#32
  let v12 : BitVec 32 := Scalar.addi c0_i32_35 c512_i32_36
  let c1_i32_37 : BitVec 32 := 1#32
  ⟨c0_i32_35, v12, c1_i32_37⟩
@[reducible] def k0_t9_loop : Scf.Loop 32 :=
  let c0_i32_40 : BitVec 32 := 0#32
  let c512_i32_41 : BitVec 32 := 512#32
  let v14 : BitVec 32 := Scalar.addi c0_i32_40 c512_i32_41
  let c1_i32_42 : BitVec 32 := 1#32
  ⟨c0_i32_40, v14, c1_i32_42⟩
def k0_off14 (k0_t9 : Fin k0_t9_loop.trips) : Fin 1 → Nat :=
  let c0_i32_40 : BitVec 32 := 0#32
  let c1_i32_42 : BitVec 32 := 1#32
  let arg7 : BitVec 32 := Scf.iv c0_i32_40 c1_i32_42 k0_t9
  let v22 : Index := Scalar.indexCast arg7
  ![v22.toNat]
def k0_off15 (k0_t9 : Fin k0_t9_loop.trips) : Fin 2 → Nat :=
  let c2048_i32_69 : BitVec 32 := 2048#32
  let c0_i32_40 : BitVec 32 := 0#32
  let c1_i32_42 : BitVec 32 := 1#32
  let arg7 : BitVec 32 := Scf.iv c0_i32_40 c1_i32_42 k0_t9
  let v24 : BitVec 32 := Scalar.addi c2048_i32_69 arg7
  let c0_i32_70 : BitVec 32 := 0#32
  ![v24.toNat, 0]
def k0_off16 (v23 : BitVec 32) : Fin 2 → Nat :=
  let c0_i32_71 : BitVec 32 := 0#32
  ![v23.toNat, 0]

def k0_chk5 (v23 : BitVec 32) : Prop :=
  (∀ a, (k0_off16 v23) a + S1x64.size a ≤ S1000000x64.size a)
theorem k0_off16_inb : ∀ (v23 : BitVec 32) (k0_hw5 : k0_chk5 v23), ∀ a, (k0_off16 v23) a + S1x64.size a ≤ S1000000x64.size a := fun v23 k0_hw5 => k0_hw5

@[reducible] def k0_t10_loop : Scf.Loop 32 :=
  let c0_i32_45 : BitVec 32 := 0#32
  let c512_i32_46 : BitVec 32 := 512#32
  let v15 : BitVec 32 := Scalar.addi c0_i32_45 c512_i32_46
  let c1_i32_47 : BitVec 32 := 1#32
  ⟨c0_i32_45, v15, c1_i32_47⟩
@[reducible] def k0_t11_loop : Scf.Loop 32 :=
  let c0_i32_50 : BitVec 32 := 0#32
  let c512_i32_51 : BitVec 32 := 512#32
  let v17 : BitVec 32 := Scalar.addi c0_i32_50 c512_i32_51
  let c1_i32_52 : BitVec 32 := 1#32
  ⟨c0_i32_50, v17, c1_i32_52⟩
def k0_off17 (k0_t11 : Fin k0_t11_loop.trips) : Fin 1 → Nat :=
  let c0_i32_50 : BitVec 32 := 0#32
  let c1_i32_52 : BitVec 32 := 1#32
  let arg7 : BitVec 32 := Scf.iv c0_i32_50 c1_i32_52 k0_t11
  let v22 : Index := Scalar.indexCast arg7
  ![v22.toNat]
def k0_off18 (k0_t11 : Fin k0_t11_loop.trips) : Fin 2 → Nat :=
  let c2560_i32_69 : BitVec 32 := 2560#32
  let c0_i32_50 : BitVec 32 := 0#32
  let c1_i32_52 : BitVec 32 := 1#32
  let arg7 : BitVec 32 := Scf.iv c0_i32_50 c1_i32_52 k0_t11
  let v24 : BitVec 32 := Scalar.addi c2560_i32_69 arg7
  let c0_i32_70 : BitVec 32 := 0#32
  ![v24.toNat, 0]
def k0_off19 (v23 : BitVec 32) : Fin 2 → Nat :=
  let c0_i32_71 : BitVec 32 := 0#32
  ![v23.toNat, 0]

def k0_chk6 (v23 : BitVec 32) : Prop :=
  (∀ a, (k0_off19 v23) a + S1x64.size a ≤ S1000000x64.size a)
theorem k0_off19_inb : ∀ (v23 : BitVec 32) (k0_hw6 : k0_chk6 v23), ∀ a, (k0_off19 v23) a + S1x64.size a ≤ S1000000x64.size a := fun v23 k0_hw6 => k0_hw6

@[reducible] def k0_t12_loop : Scf.Loop 32 :=
  let c0_i32_55 : BitVec 32 := 0#32
  let c512_i32_56 : BitVec 32 := 512#32
  let v18 : BitVec 32 := Scalar.addi c0_i32_55 c512_i32_56
  let c1_i32_57 : BitVec 32 := 1#32
  ⟨c0_i32_55, v18, c1_i32_57⟩
@[reducible] def k0_t13_loop : Scf.Loop 32 :=
  let c0_i32_60 : BitVec 32 := 0#32
  let c512_i32_61 : BitVec 32 := 512#32
  let v20 : BitVec 32 := Scalar.addi c0_i32_60 c512_i32_61
  let c1_i32_62 : BitVec 32 := 1#32
  ⟨c0_i32_60, v20, c1_i32_62⟩
def k0_off20 (k0_t13 : Fin k0_t13_loop.trips) : Fin 1 → Nat :=
  let c0_i32_60 : BitVec 32 := 0#32
  let c1_i32_62 : BitVec 32 := 1#32
  let arg7 : BitVec 32 := Scf.iv c0_i32_60 c1_i32_62 k0_t13
  let v22 : Index := Scalar.indexCast arg7
  ![v22.toNat]
def k0_off21 (k0_t13 : Fin k0_t13_loop.trips) : Fin 2 → Nat :=
  let c3072_i32_69 : BitVec 32 := 3072#32
  let c0_i32_60 : BitVec 32 := 0#32
  let c1_i32_62 : BitVec 32 := 1#32
  let arg7 : BitVec 32 := Scf.iv c0_i32_60 c1_i32_62 k0_t13
  let v24 : BitVec 32 := Scalar.addi c3072_i32_69 arg7
  let c0_i32_70 : BitVec 32 := 0#32
  ![v24.toNat, 0]
def k0_off22 (v23 : BitVec 32) : Fin 2 → Nat :=
  let c0_i32_71 : BitVec 32 := 0#32
  ![v23.toNat, 0]

def k0_chk7 (v23 : BitVec 32) : Prop :=
  (∀ a, (k0_off22 v23) a + S1x64.size a ≤ S1000000x64.size a)
theorem k0_off22_inb : ∀ (v23 : BitVec 32) (k0_hw7 : k0_chk7 v23), ∀ a, (k0_off22 v23) a + S1x64.size a ≤ S1000000x64.size a := fun v23 k0_hw7 => k0_hw7

@[reducible] def k0_t14_loop : Scf.Loop 32 :=
  let c0_i32_65 : BitVec 32 := 0#32
  let c512_i32_66 : BitVec 32 := 512#32
  let v21 : BitVec 32 := Scalar.addi c0_i32_65 c512_i32_66
  let c1_i32_67 : BitVec 32 := 1#32
  ⟨c0_i32_65, v21, c1_i32_67⟩
def k0_off23 (i : grid0.Coords) : Fin 2 → Nat :=
  let arg0 : BitVec 32 := BitVec.ofNat 32 (i 0).val
  let c3584_i32 : BitVec 32 := 3584#32
  let v0 : BitVec 32 := Scalar.muli arg0 c3584_i32
  let c0_i32_69_r7 : BitVec 32 := 0#32
  ![v0.toNat, 0]
abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== KernelIdeal.lean ====
variable {F : FTy → Type} [FloatOps F] [Named F]
def κ : String → Option EReal := fun
  | "w_neg" => some ((10485760⁻¹ : ℝ) : EReal)
  | _ => none
-- ==== ReferenceIdeal.lean ====
abbrev S1024 : Shape := ⟨1, ![1024]⟩
abbrev S1024x5 : Shape := ⟨2, ![1024, 5]⟩
abbrev S1000000x64 : Shape := ⟨2, ![1000000, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S1024x5x1 : Shape := ⟨3, ![1024, 5, 1]⟩
abbrev S1x1x1 : Shape := ⟨3, ![1, 1, 1]⟩
abbrev S1024x5x64 : Shape := ⟨3, ![1024, 5, 64]⟩
abbrev S64x1024 : Shape := ⟨2, ![64, 1024]⟩
abbrev S1024x1024 : Shape := ⟨2, ![1024, 1024]⟩
abbrev S1024x64x5 : Shape := ⟨3, ![1024, 64, 5]⟩
abbrev S1024x1024x5 : Shape := ⟨3, ![1024, 1024, 5]⟩

abbrev nBuf : Space → Nat
  | .hbm => 118
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x5, .i32⟩
  | .hbm, ⟨3, _⟩ => ⟨S1000000x64, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x64, .f32⟩
  | .hbm, ⟨23, _⟩ => ⟨S1024x64, .i1⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x64, .f32⟩
  | .hbm, ⟨46, _⟩ => ⟨S1024x64, .i1⟩
  | .hbm, ⟨47, _⟩ => ⟨S_, .f32⟩
  | .hbm, ⟨48, _⟩ => ⟨S1024x64, .f32⟩
  | .hbm, ⟨49, _⟩ => ⟨S1024x64, .f32⟩
  | .hbm, ⟨50, _⟩ => ⟨S_, .i32⟩
  | .hbm, ⟨51, _⟩ => ⟨S1024x5, .i32⟩
  | .hbm, ⟨52, _⟩ => ⟨S1024x5, .i1⟩
  | .hbm, ⟨53, _⟩ => ⟨S_, .i32⟩
  | .hbm, ⟨54, _⟩ => ⟨S1024x5, .i32⟩
  | .hbm, ⟨55, _⟩ => ⟨S1024x5, .i32⟩
  | .hbm, ⟨56, _⟩ => ⟨S1024x5, .i32⟩
  | .hbm, ⟨57, _⟩ => ⟨S1024x5x1, .i32⟩
  | .hbm, ⟨58, _⟩ => ⟨S1, .i32⟩
  | .hbm, ⟨59, _⟩ => ⟨S_, .i32⟩
  | .hbm, ⟨60, _⟩ => ⟨S1024x5x1, .i32⟩
  | .hbm, ⟨61, _⟩ => ⟨S1024x5x1, .i1⟩
  | .hbm, ⟨62, _⟩ => ⟨S1x1x1, .i32⟩
  | .hbm, ⟨63, _⟩ => ⟨S1024x5x1, .i32⟩
  | .hbm, ⟨64, _⟩ => ⟨S1024x5x1, .i1⟩
  | .hbm, ⟨65, _⟩ => ⟨S1024x5x1, .i1⟩
  | .hbm, ⟨66, _⟩ => ⟨S_, .i1⟩
  | .hbm, ⟨67, _⟩ => ⟨S1024x5, .i1⟩
  | .hbm, ⟨68, _⟩ => ⟨S1024x5x64, .f32⟩
  | .hbm, ⟨69, _⟩ => ⟨S1024x5x64, .i1⟩
  | .hbm, ⟨70, _⟩ => ⟨S_, .f32⟩
  | .hbm, ⟨71, _⟩ => ⟨S1024x5x64, .f32⟩
  | .hbm, ⟨72, _⟩ => ⟨S1024x5x64, .f32⟩
  | .hbm, ⟨73, _⟩ => ⟨S64x1024, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1024, .i1⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S1024x1024, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1024x64x5, .f32⟩
  | .hbm, ⟨95, _⟩ => ⟨S1024x1024x5, .f32⟩
  | .hbm, ⟨96, _⟩ => ⟨S1024x1024x5, .f32⟩
  | .hbm, ⟨97, _⟩ => ⟨S_, .f32⟩
  | .hbm, ⟨98, _⟩ => ⟨S1024x1024x5, .f32⟩
  | .hbm, ⟨99, _⟩ => ⟨S1024x1024x5, .f32⟩
  | .hbm, ⟨100, _⟩ => ⟨S1024x1024x5, .f32⟩
  | .hbm, ⟨101, _⟩ => ⟨S1024x1024x5, .f32⟩
  | .hbm, ⟨102, _⟩ => ⟨S1024x1024x5, .i1⟩
  | .hbm, ⟨103, _⟩ => ⟨S1024x1024x5, .f32⟩
  | .hbm, ⟨104, _⟩ => ⟨S1024x1024x5, .f32⟩
  | .hbm, ⟨105, _⟩ => ⟨S1024x1024x5, .f32⟩
  | .hbm, ⟨106, _⟩ => ⟨S1024x1024x5, .f32⟩
  | .hbm, ⟨107, _⟩ => ⟨S1024x1024x5, .f32⟩
  | .hbm, ⟨108, _⟩ => ⟨S1024x1024x5, .f32⟩
  | .hbm, ⟨109, _⟩ => ⟨S1024x1024x5, .f32⟩
  | .hbm, ⟨110, _⟩ => ⟨S1024x1024x5, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_cst : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_0 : Ref sig .tc := ⟨.hbm, 90, rfl⟩
abbrev main_v19 : Ref sig .tc := ⟨.hbm, 91, rfl⟩
abbrev main_cst_1 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_cst_2 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_cst_3 : Ref sig .tc := ⟨.hbm, 111, rfl⟩
abbrev main_v37 : Ref sig .tc := ⟨.hbm, 112, rfl⟩
abbrev main_cst_4 : Ref sig .tc := ⟨.hbm, 113, rfl⟩
abbrev main_v38 : Ref sig .tc := ⟨.hbm, 114, rfl⟩
abbrev main_v39 : Ref sig .tc := ⟨.hbm, 115, rfl⟩
abbrev main_cst_5 : Ref sig .tc := ⟨.hbm, 116, rfl⟩
abbrev main_v40 : Ref sig .tc := ⟨.hbm, 117, rfl⟩

abbrev nD : Nat := 1
abbrev τ : Topo := Topo.v7x

variable {F : FTy → Type} [FloatOps F]
-- ==== Proof.Program.lean ====
/-
  The gather kernel of one SparseCore, written as seven runs of ONE chunk program and the copy of the
  finished buffer to the array. A chunk fetches 512 row numbers, issues 512 row copies, and waits 512
  times. The printed kernel is this program (`cc0_gather_k_eq`).
-/
module

public import proofs.«01_k».proof.Proof.Gen.KernelIdeal
public import proofs.«01_k».proof.Proof.Gen.KernelIdeal.Skeleton
public import Idealize.ShloMosaic.Lib.Tactic

@[expose] public section

noncomputable section

namespace Cert.Proof

open Cert.KernelIdeal Cert.KernelIdeal.Gen
open Idealize.ShloMosaic Idealize.SL.Sem

variable {F : FTy → Type} [FloatOps F] [Named F]

/-! The kernel's arrays and scratch buffers, as the kernel names them. -/

abbrev tableW : Memref sig Kind.scScalar Space.hbm S1000000x64 EltTy.f32 := Memref.whole main_arg3_scs
abbrev idsW : Memref sig Kind.scScalar Space.hbm S7168 EltTy.i32 := Memref.whole main_v1_scs
abbrev outW : Memref sig Kind.scScalar Space.hbm S7168x64 EltTy.f32 := Memref.whole main_v2_scs
abbrev smemW : Memref sig Kind.scScalar Space.smem S512 EltTy.i32 := Memref.whole cc0_scratch0
abbrev sharedW : Memref sig Kind.scScalar Space.shared S3584x64 EltTy.f32 := Memref.whole cc0_scratch1

/-- The grid point of SparseCore `c`. -/
def coordsS (c : Fin (grid0.bound 0)) : grid0.Coords := fun | 0 => c | ⟨_ + 1, h⟩ => absurd h (Nat.not_lt.2 (Nat.le_add_left _ _))

/-- The slice of the row numbers that chunk `r` of SparseCore `i` fetches. -/
abbrev idsSlice (i : grid0.Coords) (r : Fin 7) : Memref sig .scScalar .hbm S512 .i32 :=
  idsW.slice (Rect.unit (s := S7168) (k0_off1 i (BitVec.ofNat 32 (512 * r.val))) S512.size (k0_off1_inb i r)) (fun _ => rfl)

/-- Where chunk `r`'s trip `t` puts its row in the SparseCore's buffer. -/
def rowOff (r : Fin 7) (t : Fin k0_t1_loop.trips) : Fin 2 → Nat :=
  ![(Scalar.addi (BitVec.ofNat 32 (512 * r.val)) (Scf.iv 0#32 1#32 t)).toNat, 0]

/-- The issuing loop makes 512 trips. -/
theorem trips_eq : k0_t1_loop.trips = 512 := by decide

/-- The row is row `512 r + t`. -/
theorem rowOff_zero (r : Fin 7) (t : Fin k0_t1_loop.trips) :
    (Scalar.addi (BitVec.ofNat 32 (512 * r.val)) (Scf.iv 0#32 1#32 t)).toNat = 512 * r.val + t.val := by
  have ht : t.val < 512 := by have := t.isLt; exact lt_of_lt_of_eq this trips_eq
  have hr := r.isLt
  simp only [Scalar.addi, IntOp.addi, Scf.iv, BitVec.toNat_add, BitVec.toNat_mul, BitVec.toNat_ofNat]
  omega

/-- The row is within the shared memory. -/
theorem rowOff_inb (r : Fin 7) (t : Fin k0_t1_loop.trips) : ∀ a, (rowOff r t) a + S1x64.size a ≤ S3584x64.size a := by
  have ht : t.val < 512 := by have := t.isLt; exact lt_of_lt_of_eq this trips_eq
  have hr := r.isLt
  intro a
  match a with
  | 0 =>
    show (Scalar.addi (BitVec.ofNat 32 (512 * r.val)) (Scf.iv 0#32 1#32 t)).toNat + 1 ≤ 3584
    rw [rowOff_zero]; omega
  | 1 => show 0 + 64 ≤ 64; omega

/-- The row of the SparseCore's buffer that chunk `r`'s trip `t` fills. -/
abbrev rowSlice (r : Fin 7) (t : Fin k0_t1_loop.trips) : Memref sig .scScalar .shared S1x64 .f32 :=
  sharedW.slice (Rect.unit (s := S3584x64) (rowOff r t) S1x64.size (rowOff_inb r t)) (fun _ => rfl)

/-- Row `v` of the table. -/
abbrev tableSlice (v : BitVec 32) (h : k0_chk1 v) : Memref sig .scScalar .hbm S1x64 .f32 :=
  tableW.slice (Rect.unit (s := S1000000x64) (k0_off4 v) S1x64.size (k0_off4_inb v h)) (fun _ => rfl)

/-- One trip of a chunk's first loop: read a row number, issue the copy of that row. -/
def issueBody (i : grid0.Coords) (r : Fin 7) (t : Fin k0_t1_loop.trips) (_ : PUnit) :
    Prog (TpuEff nD τ sig (Elt F) Λ₀ (.scScalar ((i 0).castLE hcore0))) PUnit := do
  let v23 : Elt F .i32 ← smemLoad smemW (Rect.unit (s := S512) (k0_off2 t) S1.size (k0_off2_inb t)) numel1_S1 rfl
  have hw : k0_chk1 v23 := (← Prog.lift (TpuEff.assume (k0_chk1 v23) (k0_chk1.dec v23))).down
  Prog.lift (.enqueueDma (tableSlice v23 hw) (.here (rowSlice r t)) (.dma cc0_scratch2.sem) (View.wordExact_bits rfl) (View.wordExact_bits rfl) ⟨Or.inl rfl, trivial⟩)
  pure ⟨⟩

/-- One trip of a chunk's second loop: wait for the amount of one row. -/
def drainBody (i : grid0.Coords) (_ : Fin k0_t1_loop.trips) (_ : PUnit) :
    Prog (TpuEff nD τ sig (Elt F) Λ₀ (.scScalar ((i 0).castLE hcore0))) PUnit := do
  Prog.lift (.waitDma2 cc0_scratch2.sem
    (tableW.slice (Rect.unit (s := S1000000x64) ![0, 0] S1x64.size inb_S1000000x64_S1x64_0_0) (fun _ => rfl) : Memref sig .scScalar .hbm S1x64 .f32)
    (sharedW.slice (Rect.unit (s := S3584x64) ![0, 0] S1x64.size inb_S3584x64_S1x64_0_0) (fun _ => rfl) : Memref sig .scScalar .shared S1x64 .f32)
    (View.wordExact_bits rfl) (View.wordExact_bits rfl))
  pure ⟨⟩

/-- The semaphore of chunk `r`'s own fetch. -/
def chunkSem (r : Fin 7) : DmaSem sig := ![cc0_scoped0.sem, cc0_scoped1.sem, cc0_scoped2.sem, cc0_scoped3.sem, cc0_scoped4.sem, cc0_scoped5.sem, cc0_scoped6.sem] r

/-- One chunk. -/
def chunk (i : grid0.Coords) (r : Fin 7) : Prog (TpuEff nD τ sig (Elt F) Λ₀ (.scScalar ((i 0).castLE hcore0))) PUnit := do
  Prog.lift (.enqueueDma (idsSlice i r) (.here smemW) (.dma (chunkSem r)) (View.wordExact_bits rfl) (Memref.isWhole_whole cc0_scratch0).wordExact ⟨Or.inl rfl, trivial⟩)
  Prog.lift (.waitDma2 (chunkSem r) (idsSlice i r) smemW (View.wordExact_bits rfl) (Memref.isWhole_whole cc0_scratch0).wordExact)
  Scf.Loop.for k0_t1_loop k0_t1_ok ⟨⟩ (issueBody i r)
  Scf.Loop.for k0_t1_loop k0_t1_ok ⟨⟩ (drainBody i)
  pure ⟨⟩

/-- The half of the gathered array that SparseCore `i` writes. -/
abbrev outSlice (i : grid0.Coords) : Memref sig .scScalar .hbm S3584x64 .f32 :=
  outW.slice (Rect.unit (s := S7168x64) (k0_off23 i) S3584x64.size (k0_off23_inb i)) (fun _ => rfl)

/-- The copy of the filled buffer to the array. -/
def copyOut (i : grid0.Coords) : Prog (TpuEff nD τ sig (Elt F) Λ₀ (.scScalar ((i 0).castLE hcore0))) PUnit := do
  Prog.lift (.enqueueDma sharedW (.here (outSlice i)) (.dma cc0_scoped7.sem) (Memref.isWhole_whole cc0_scratch1).wordExact (View.wordExact_bits rfl) ⟨Or.inl rfl, trivial⟩)
  Prog.lift (.waitDma2 cc0_scoped7.sem sharedW (outSlice i) (Memref.isWhole_whole cc0_scratch1).wordExact (View.wordExact_bits rfl))
  pure ⟨⟩

/-- The whole kernel of one SparseCore. -/
def gatherProg (i : grid0.Coords) : Prog (TpuEff nD τ sig (Elt F) Λ₀ (.scScalar ((i 0).castLE hcore0))) PUnit := do
  chunk i 0; chunk i 1; chunk i 2; chunk i 3; chunk i 4; chunk i 5; chunk i 6
  copyOut i

set_option maxHeartbeats 4000000 in
/-- The printed kernel is `gatherProg`. -/
theorem cc0_gather_k_eq (i : grid0.Coords) :
    cc0_gather_k (F := F) i tableW (Memref.isWhole_whole _) idsW (Memref.isWhole_whole _) outW (Memref.isWhole_whole _) smemW (Memref.isWhole_whole _)
        sharedW (Memref.isWhole_whole _) cc0_scratch2 cc0_scoped0 cc0_scoped1 cc0_scoped2 cc0_scoped3 cc0_scoped4 cc0_scoped5 cc0_scoped6 cc0_scoped7
      = gatherProg i := by
  simp only [cc0_gather_k, k0_part1, k0_part2, gatherProg, chunk, copyOut, bind_assoc, pure_bind]
  rfl

end Cert.Proof

end
-- ==== Proof.Setup.lean ====
/-
  The launch as the proof sees it: the labels and definitions, the resource algebra (the launch's
  handshakes, the TensorCore pipeline's rounds, the transfers' counters), and the values the kernel
  computes on its way: the row numbers and the gathered rows.
-/
module

public import proofs.«01_k».proof.Proof.Program
public import Idealize.ShloMosaic.PureOps.BitExact
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionsLoop
public import Idealize.ShloMosaic.Lib.Batch
public import Idealize.ShloMosaic.Lib.Writes
public import Idealize.ShloMosaic.Lib.ValueIdxCore
public import Idealize.ShloMosaic.Lib.Pipeline.ValueKit.Geometry

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

/-- On the machine's own floats a named constant is the literal it names. -/
@[reducible] def namedBits : Named Bits := ⟨fun _ _ _ b => Scalar.ofBits (F := Bits) _ b⟩

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: its semaphores are distinct and not scoped. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL

/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The transfers' counters: where the copies' batches take their tokens. -/
abbrev EC : UEmb Counters (MT nD τ sig (HIx 1) (Elt F) ℕ UU ℕ) := countersEmb

/-! ## The values -/

/-- Row `v`, column `j` of the table. -/
abbrev rowAt (v : BitVec 32) (j : Fin 64) : S1000000x64.Idx :=
  ValueIdx.ix2 (n0 := 1000000) (n1 := 64) ⟨v.toNat % 1000000, Nat.mod_lt _ (by decide)⟩ j

/-- The gathered rows: row `p` is the table's row of the number at `p`. -/
def gathered (tbl : S1000000x64.Idx → Elt F .f32) (ids : S7168.Idx → BitVec 32) : S7168x64.Idx → Elt F .f32 :=
  fun p => tbl (rowAt (ids (ValueIdx.ix1 (n := 7168) (p 0))) (p 1))

/-- Row `q` of SparseCore `i`'s buffer is row `3584 i + q` of the gathered array. -/
def halfOf (i : grid0.Coords) (G : S7168x64.Idx → Elt F .f32) : S3584x64.Idx → Elt F .f32 :=
  fun q => G (ValueIdx.ix2 (n0 := 7168) (n1 := 64)
    ⟨3584 * (i 0).val + (q 0).val, by have h := (i 0).isLt; have h' := (q 0).isLt; change _ < 2 at h; change _ < 3584 at h'; omega⟩ (q 1))

end Cert.Proof

end
-- ==== Proof.Gather.lean ====
/-
  What one SparseCore's program does: one chunk at a symbolic chunk number, then the seven chunks and the
  copy out. The values ride along: after `n` chunks the first `512 n` rows of the SparseCore's buffer are the
  gathered rows.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- SparseCore `i`'s sequencer thread. -/
abbrev thr (d : Dev nD) (i : grid0.Coords) : Thread nD τ := S d ((i 0).castLE hcore0)

variable (d : Dev nD) (i : grid0.Coords)

/-- The row copies' semaphore. -/
abbrev rowSem : SemLoc sig := .dma cc0_scratch2.sem

/-! ## The rows of the SparseCore's buffer -/

/-- The rows from `a` on below `b`. -/
def rows (a b : ℕ) : Finset S3584x64.Idx := Finset.univ.filter fun p => a ≤ (p 0).val ∧ (p 0).val < b

/-- Membership in a band of rows. -/
theorem mem_rows {a b : ℕ} {p : S3584x64.Idx} : p ∈ rows a b ↔ a ≤ (p 0).val ∧ (p 0).val < b := by
  simp [rows]

/-- The next row is among those left. -/
theorem rows_rest_sub (a k : ℕ) : rows (a + k) (a + k + 1) ⊆ Finset.univ \ rows a (a + k) := by
  intro p hp; rw [mem_rows] at hp; simp only [Finset.mem_sdiff, Finset.mem_univ, true_and, mem_rows]; omega

/-- What is left when the next row is taken. -/
theorem rows_rest_succ (a k : ℕ) : (Finset.univ \ rows a (a + k)) \ rows (a + k) (a + k + 1) = Finset.univ \ rows a (a + (k + 1)) := by
  ext p; simp only [Finset.mem_sdiff, Finset.mem_univ, true_and, mem_rows]; omega

/-- Chunk `r`'s trip `t` fills row `512 r + t`. -/
theorem rowSlice_set (r : Fin 7) (t : Fin k0_t1_loop.trips) :
    (rowSlice r t).view.set = rows (512 * r.val + t.val) (512 * r.val + t.val + 1) := by
  ext p
  refine (ValueKit.mem_set_slice_whole_iff _ _ _ Rect.mem_set_unit).trans ?_
  rw [mem_rows]
  constructor
  · intro h
    have h0 := h 0
    change (Scalar.addi (BitVec.ofNat 32 (512 * r.val)) (Scf.iv 0#32 1#32 t)).toNat ≤ (p 0).val
      ∧ (p 0).val < (Scalar.addi (BitVec.ofNat 32 (512 * r.val)) (Scf.iv 0#32 1#32 t)).toNat + 1 at h0
    rw [rowOff_zero] at h0
    exact h0
  · intro h a
    match a with
    | 0 =>
      show (Scalar.addi (BitVec.ofNat 32 (512 * r.val)) (Scf.iv 0#32 1#32 t)).toNat ≤ (p 0).val
        ∧ (p 0).val < (Scalar.addi (BitVec.ofNat 32 (512 * r.val)) (Scf.iv 0#32 1#32 t)).toNat + 1
      rw [rowOff_zero]
      exact h
    | 1 => exact ⟨Nat.zero_le _, by have := (p 1).isLt; change _ < 64 at this; show (p 1).val < 0 + 64; omega⟩

variable [FloatOps F] [Named F]

/-! ## One chunk -/

variable (tbl : S1000000x64.Idx → Elt F .f32) (ids : S7168.Idx → BitVec 32)
variable (O : CellTallies nD τ sig (HIx 1)) (W : Waits sig (HIx 1))

/-- What is held between chunks: shares of the table and of the row numbers, the fetched numbers' buffer, the
    SparseCore's buffer with its first `512 n` rows gathered, the semaphores at zero, what the thread owes. -/
def chunkSt (n : ℕ) : sProp 𝕄 :=
  iprop((∃ q, tableW.view.loc (thr d i) ↦{q} tbl) ∗ (∃ q, idsW.view.loc (thr d i) ↦{q} ids)
    ∗ (∃ w, smemW.view.loc (thr d i) ↦{fullShare} w)
    ∗ (∃ f : S3584x64.Idx → Elt F .f32, ⌜∀ p, (p 0).val < 512 * n → f p = halfOf i (gathered tbl ids) p⌝ ∗ sharedW.view.loc (thr d i) ↦{fullShare} f)
    ∗ semVal (thr d i, rowSem) 0
    ∗ (bigSep Finset.univ fun r : Fin 7 => semVal (thr d i, SemLoc.dma (chunkSem r)) 0)
    ∗ ∃ W', ⌜∀ p ∈ W', p ∈ W ∨ p.2 = none⌝ ∗ owes (thr d i) O W')

/-- The number that chunk `r`'s trip `t` reads. -/
def numAt (r t : ℕ) : BitVec 32 := ids (ix1 (n := 7168) ⟨(3584 * (i 0).val + (512 * r + t)) % 7168, Nat.mod_lt _ (by decide)⟩)

/-- What the copies of chunk `r` deliver: row `512 r + t`, gathered. -/
def rowD (r : Fin 7) (t : Fin 512) : sProp 𝕄 :=
  iprop(sharedW.view.loc (thr d i) ↦[rows (512 * r.val + t.val) (512 * r.val + t.val + 1)]{fullShare} halfOf i (gathered tbl ids))

/-- The amount one row copy puts on its semaphore. -/
abbrev rowAmt : ℕ := (sharedW.slice (Rect.unit (s := S3584x64) ![0, 0] S1x64.size inb_S3584x64_S1x64_0_0) (fun _ => rfl) : Memref sig .scScalar .shared S1x64 .f32).view.dmaCredit

instance rowD_storable (r : Fin 7) (t : Fin 512) : BI.Storable (upEmb : UEmb _ 𝕄) (rowD d i tbl ids r t) := by
  unfold rowD; infer_instance

/-- Before trip `k` of the issuing loop: `k` copies issued, the rows not yet filled held as they were. -/
def issueInv (r : Fin 7) (w : S512.Idx → BitVec 32) (f : S3584x64.Idx → Elt F .f32) (k : ℕ) (_ : PUnit.{1}) : sProp 𝕄 :=
  iprop((∃ q, tableW.view.loc (thr d i) ↦{q} tbl) ∗ (smemW.view.loc (thr d i) ↦{fullShare} w)
    ∗ (sharedW.view.loc (thr d i) ↦[Finset.univ \ rows (512 * r.val) (512 * r.val + k)]{fullShare} f)
    ∗ Transfers.Batch EC (thr d i) rowSem (none : HIx 1) rowAmt (rowD d i tbl ids r) k 0)

/-- Every row number in reach is one of the numbers fetched. -/
theorem numAt_lt (hids : ∀ j, (ids j).toNat < 1000000) (r t : ℕ) : (numAt i ids r t).toNat < 1000000 := hids _

/-- A row number below the table's height passes the kernel's check. -/
theorem chk_of_lt {v : BitVec 32} (h : v.toNat < 1000000) : k0_chk1 v := by
  intro a
  match a with
  | 0 => show v.toNat + 1 ≤ 1000000; omega
  | 1 => show 0 + 64 ≤ 64; omega

/-- Trip `t` of the loop reads the buffer at `t`. -/
theorem smem_read (w : S512.Idx → BitVec 32) (t : Fin k0_t1_loop.trips) (x : S1.Idx) :
    ((smemW).access (Rect.unit (s := S512) (k0_off2 t) S1.size (k0_off2_inb t))).read (Elt F) w x
      = w (ix1 ⟨t.val, lt_of_lt_of_eq t.isLt trips_eq⟩) := by
  have ht : t.val < 512 := lt_of_lt_of_eq t.isLt trips_eq
  refine congrArg w (funext fun a => ?_)
  match a with
  | 0 =>
    apply Fin.ext
    refine (ValueKit.view_emb_slice_whole_unit_val _ _ _ _ _ 0).trans ?_
    have hx : (x 0).val = 0 := by have := (x 0).isLt; change _ < 1 at this; omega
    show (Scalar.indexCast (Scf.iv 0#32 1#32 t.val)).toNat + (x 0).val = t.val
    rw [hx]
    simp only [Scalar.indexCast, Scf.iv, BitVec.toNat_add, BitVec.toNat_mul, BitVec.toNat_ofNat]
    omega

/-- Copying row `v` of the table into row `512 r + t` of the buffer leaves the gathered row there. -/
theorem row_write (r : Fin 7) (t : Fin k0_t1_loop.trips) (f : S3584x64.Idx → Elt F .f32)
    (hlt : (numAt i ids r.val t.val).toNat < 1000000) (hc : k0_chk1 (numAt i ids r.val t.val)) :
    ∀ p ∈ rows (512 * r.val + t.val) (512 * r.val + t.val + 1),
      (rowSlice r t).view.write (Elt F) f ((tableSlice (numAt i ids r.val t.val) hc).view.read (Elt F) tbl) Finset.univ p
        = halfOf i (gathered tbl ids) p := by
  intro p hp
  rw [← rowSlice_set] at hp
  obtain ⟨x, -, rfl⟩ := Finset.mem_map.mp hp
  have ht : t.val < 512 := lt_of_lt_of_eq t.isLt trips_eq
  have hr := r.isLt
  have h0 : ((rowSlice r t).view.emb x 0).val = 512 * r.val + t.val := by
    refine (ValueKit.view_emb_slice_whole_unit_val _ _ _ _ _ 0).trans ?_
    have hx : (x 0).val = 0 := by have := (x 0).isLt; change _ < 1 at this; omega
    show (Scalar.addi (BitVec.ofNat 32 (512 * r.val)) (Scf.iv 0#32 1#32 t)).toNat + (x 0).val = _
    rw [hx, rowOff_zero, Nat.add_zero]
  have h1 : ((rowSlice r t).view.emb x 1).val = (x 1).val := by
    refine (ValueKit.view_emb_slice_whole_unit_val _ _ _ _ _ 1).trans ?_
    show 0 + (x 1).val = _
    omega
  rw [View.write_emb_of_mem _ _ (Finset.mem_univ x)]
  show tbl _ = tbl _
  refine congrArg tbl (funext fun a => ?_)
  have hi := (i 0).isLt
  change _ < 2 at hi
  have hn : numAt i ids r.val t.val = ids (ix1 (n := 7168) ⟨3584 * (i 0).val + ((rowSlice r t).view.emb x 0).val, by rw [h0]; omega⟩) := by
    unfold numAt
    refine congrArg (fun z : Fin 7168 => ids (ix1 z)) (Fin.ext ?_)
    show (3584 * (i 0).val + (512 * r.val + t.val)) % 7168 = 3584 * (i 0).val + ((rowSlice r t).view.emb x 0).val
    rw [h0]; omega
  match a with
  | 0 =>
    apply Fin.ext
    refine (ValueKit.view_emb_slice_whole_unit_val _ _ _ _ _ 0).trans ?_
    have hx : (x 0).val = 0 := by have := (x 0).isLt; change _ < 1 at this; omega
    show (numAt i ids r.val t.val).toNat + (x 0).val = (ids (ix1 (n := 7168) ⟨3584 * (i 0).val + ((rowSlice r t).view.emb x 0).val, _⟩)).toNat % 1000000
    rw [← hn, hx]; omega
  | 1 =>
    apply Fin.ext
    refine (ValueKit.view_emb_slice_whole_unit_val _ _ _ _ _ 1).trans ?_
    show 0 + (x 1).val = ((rowSlice r t).view.emb x 1).val
    omega

/-- One trip of the issuing loop: it reads a row number and starts one more row copy. -/
theorem issue_step (r : Fin 7) (hids : ∀ j, (ids j).toNat < 1000000) (w : S512.Idx → BitVec 32) (f : S3584x64.Idx → Elt F .f32)
    (hw : ∀ t : Fin 512, w (ix1 t) = numAt i ids r.val t.val) (t : Fin k0_t1_loop.trips) (a : PUnit.{1}) :
    issueInv d i tbl ids r w f t.val a
      ⊢ wp frame (wpE (defs₀ (F := F)) 𝒱₀ (thr d i) none) Set.univ (issueBody i r t a) (issueInv d i tbl ids r w f (t.val + 1)) := by
  unfold issueInv issueBody
  iintro ⟨⟨%q, Ht⟩, Hw, Hf, HB⟩
  have hn : w (ix1 ⟨t.val, lt_of_lt_of_eq t.isLt trips_eq⟩) = numAt i ids r.val t.val := hw ⟨t.val, lt_of_lt_of_eq t.isLt trips_eq⟩
  have hlt := numAt_lt i ids hids r.val t.val
  sl_exec
  have hv : issue_step.sl.r (F := F) w t = numAt i ids r.val t.val := by
    unfold issue_step.sl.r
    exact (smem_read (F := F) w t _).trans hn
  rw [hv]
  have hc := chk_of_lt hlt
  iapply (wp_assume 𝒱₀ (thr d i) none Set.univ hc)
  ihave Ht2 := (pointsTo_share q.mem_left_op_right).1 $$ Ht
  icases Ht2 with ⟨Ht, Hu⟩
  ihave Hu2 := (pointsTo_split_subset (Finset.subset_univ (tableSlice (numAt i ids r.val t.val) hc).view.set)).1 $$ Hu
  icases Hu2 with ⟨Hu, -⟩
  ihave Hf2 := (pointsTo_split_subset (I := rows (512 * r.val + t.val) (512 * r.val + t.val + 1)) (rows_rest_sub _ _)).1 $$ Hf
  icases Hf2 with ⟨Hrow, Hf⟩
  iapply (Transfers.wp_dmaBatch EC 𝒱₀ (thr d i) none (none : HIx 1) rowAmt (j := t.val) (u := 0) (q := q.right) (fs := tbl) (fd := f)
    (Sd := rows (512 * r.val + t.val) (512 * r.val + t.val + 1)) (src := tableSlice (numAt i ids r.val t.val) hc) (dst := rowSlice r t)
    (D := rowD d i tbl ids r) rfl (rowSlice_set r t).subset (lt_of_lt_of_eq t.isLt trips_eq) (Nat.zero_le _) ?_) $$ [Hu Hrow HB]
  · iintro ⟨H, -⟩
    unfold rowD
    iapply (Entails.of_eq (pointsTo_congr (row_write i tbl ids r t f hlt hc))) $$ H
  · isplitl [Hu]; · iexact Hu
    isplitl [Hrow]; · iexact Hrow
    iexact HB
  iintro HB
  simp only [Prog.bind, Prog.pure_eq_ret, Prog.bind_ret]
  sl_step
  isplitl [Ht]; · iexists _; iexact Ht
  isplitl [Hw]; · iexact Hw
  isplitl [Hf]
  · iapply (Entails.of_eq (congrArg (fun I => iprop(sharedW.view.loc (thr d i) ↦[I]{fullShare} f)) (rows_rest_succ _ _))) $$ Hf
  iexact HB

/-- The 512 rows of a chunk, one by one, are the chunk's block of rows. -/
theorem rows_biUnion (a : ℕ) : (Finset.univ : Finset (Fin 512)).biUnion (fun t => rows (a + t.val) (a + t.val + 1)) = rows a (a + 512) := by
  ext p
  simp only [Finset.mem_biUnion, Finset.mem_univ, true_and, mem_rows]
  constructor
  · rintro ⟨t, h⟩; have := t.isLt; omega
  · intro h; exact ⟨⟨(p 0).val - a, by omega⟩, by dsimp only; omega⟩

/-- Chunk `r`'s rows, delivered, joined to the rest of the buffer: the first `512 (r + 1)` rows are gathered. -/
theorem rows_join (r : Fin 7) (f : S3584x64.Idx → Elt F .f32) (hf : ∀ p, (p 0).val < 512 * r.val → f p = halfOf i (gathered tbl ids) p) :
    iprop(bigSep Finset.univ (rowD d i tbl ids r)
        ∗ sharedW.view.loc (thr d i) ↦[Finset.univ \ rows (512 * r.val) (512 * r.val + 512)]{fullShare} f)
      ⊢ (iprop(∃ f : S3584x64.Idx → Elt F .f32, ⌜∀ p, (p 0).val < 512 * (r.val + 1) → f p = halfOf i (gathered tbl ids) p⌝
          ∗ sharedW.view.loc (thr d i) ↦{fullShare} f) : sProp 𝕄) := by
  have e := pointsTo_biUnion (ℓ := sharedW.view.loc (thr d i)) (q := fullShare) (f := halfOf i (gathered tbl ids))
    (Ix := HIx 1) (Name := ℕ) (U := UU) (Lvl := ℕ) (Val := Elt F)
    (Finset.univ : Finset (Fin 512)) (fun t => rows (512 * r.val + t.val) (512 * r.val + t.val + 1)) (by
      intro t _ t' _ hne
      refine Finset.disjoint_left.2 fun p hp hp' => hne (Fin.ext ?_)
      rw [mem_rows] at hp hp'; omega)
  rw [rows_biUnion] at e
  iintro ⟨HD, Hf⟩
  ihave HD' := (show bigSep Finset.univ (rowD d i tbl ids r) ⊢ _ from Entails.of_eq e.symm) $$ HD
  ihave Hj := (pointsTo_join_subset (ℓ := sharedW.view.loc (thr d i)) (I := rows (512 * r.val) (512 * r.val + 512)) (fun _ _ => Finset.mem_univ _)) $$ [HD' Hf]
  · isplitl [HD']; · iexact HD'
    iexact Hf
  iexists _
  isplitr; swap; · iexact Hj
  ipureintro
  intro p hp
  by_cases h : p ∈ rows (512 * r.val) (512 * r.val + 512)
  · exact Finset.piecewise_eq_of_mem _ _ _ h
  · refine (Finset.piecewise_eq_of_notMem _ _ _ h).trans (hf p ?_)
    rw [mem_rows] at h; omega

/-- Before trip `k` of the draining loop: `k` rows' amounts taken. -/
def drainInv (r : Fin 7) (k : ℕ) (_ : PUnit.{1}) : sProp 𝕄 :=
  iprop(Transfers.Batch EC (thr d i) rowSem (none : HIx 1) rowAmt (rowD d i tbl ids r) 512 (rowAmt * k)
    ∗ levAts (K (F := F)).L (K (F := F)).lev ∗ ∃ W', ⌜∀ p ∈ W', p ∈ W ∨ p.2 = none⌝ ∗ owes (thr d i) O W')

/-- One trip of the draining loop. -/
theorem drain_step (r : Fin 7) (hO : ∀ g, O g none = 0) (t : Fin k0_t1_loop.trips) (a : PUnit.{1}) :
    drainInv d i tbl ids O W r t.val a
      ⊢ wp frame (wpE (defs₀ (F := F)) 𝒱₀ (thr d i) none) Set.univ (drainBody i t a)
          (drainInv d i tbl ids O W r (t.val + 1)) := by
  have ht : t.val < 512 := lt_of_lt_of_eq t.isLt trips_eq
  unfold drainInv drainBody
  iintro ⟨HB, #Hlv, %W', %hW', HO⟩
  ihave Hmw := ((K (F := F)).mayWait_none (thr := thr d i) rowSem hO) $$ Hlv
  simp only [Prog.lift, Prog.bind_op, Prog.bind_ret, Prog.pure_eq_ret]
  iapply (Transfers.wp_waitBatchMulO EC 𝒱₀ (thr d i) none (none : HIx 1) (N := rowAmt) 1 (Nat.one_mul _).symm
    (D := rowD d i tbl ids r) (j := 512) (u := rowAmt * t.val) (by
      rw [Nat.one_mul]; exact (Nat.mul_succ rowAmt t.val).symm.le.trans (Nat.mul_le_mul_left _ ht)) (O := O) (W := W')) $$ [HB HO Hmw]
  · isplitl [HB]; · iexact HB
    isplitl [HO]; · iexact HO
    iexact Hmw
  iintro ⟨HB, HO⟩
  sl_step
  rw [show rowAmt * (t.val + 1) = rowAmt * t.val + 1 * rowAmt from by rw [Nat.one_mul]; exact Nat.mul_succ _ _]
  isplitl [HB]; · iexact HB
  isplitr; · iexact Hlv
  iexists _
  isplitr; swap; · iexact HO
  ipureintro
  intro p hp
  rcases Finset.mem_insert.1 hp with rfl | hp
  · exact .inr rfl
  · exact hW' p hp

/-- The numbers chunk `r` fetches. -/
theorem fetched (r : Fin 7) (w : S512.Idx → BitVec 32) (t : Fin 512) :
    smemW.view.write (Elt F) w ((idsSlice i r).view.read (Elt F) ids) Finset.univ (ix1 t) = numAt i ids r.val t.val := by
  rw [View.write_whole_univ]
  have hi := (i 0).isLt
  change _ < 2 at hi
  have hr := r.isLt
  have ht := t.isLt
  refine congrArg ids (funext fun a => ?_)
  match a with
  | 0 =>
    apply Fin.ext
    refine (ValueKit.view_emb_slice_whole_unit_val _ _ _ _ _ _).trans ?_
    show (Scalar.addi (Scalar.muli (BitVec.ofNat 32 (i 0).val) 3584#32) (BitVec.ofNat 32 (512 * r.val))).toNat + t.val
      = (3584 * (i 0).val + (512 * r.val + t.val)) % 7168
    simp only [Scalar.addi, Scalar.muli, IntOp.addi, IntOp.muli, BitVec.toNat_add, BitVec.toNat_mul, BitVec.toNat_ofNat]
    generalize (i 0).val = b at hi ⊢
    rcases (by omega : b = 0 ∨ b = 1) with rfl | rfl <;> omega

/-- With no copy issued the whole buffer is left. -/
theorem rows_rest_zero (a : ℕ) : Finset.univ \ rows a (a + 0) = Finset.univ := by
  refine Finset.eq_univ_of_forall fun p => ?_
  simp only [Finset.mem_sdiff, Finset.mem_univ, true_and, mem_rows]; omega

/-- One chunk carries the state one chunk further. -/
theorem wp_chunk (r : Fin 7) (hids : ∀ j, (ids j).toNat < 1000000) (hO : ∀ g, O g none = 0) :
    iprop(levAts (K (F := F)).L (K (F := F)).lev ∗ chunkSt d i tbl ids O W r.val)
      ⊢ wp frame (wpE (defs₀ (F := F)) 𝒱₀ (thr d i) none) Set.univ (chunk i r)
          fun _ => chunkSt d i tbl ids O W (r.val + 1) := by
  unfold chunkSt chunk
  iintro ⟨#Hlv, ⟨%q, Ht⟩, ⟨%q', Hi⟩, ⟨%w, Hw⟩, ⟨%f, %hf, Hf⟩, Hsem, Hsems, %W', %hW', HO⟩
  ihave Hmw := ((K (F := F)).mayWaits_none (thr := thr d i) hO) $$ Hlv
  ihave Hsems' := (Entails.of_eq (SparseCore.bigSep_erase' (Finset.mem_univ r))) $$ Hsems
  icases Hsems' with ⟨Hs, Hsems⟩
  sl_exec
  imod (Transfers.batch_alloc' EC (thr d i) (none : HIx 1) rowAmt (rowD d i tbl ids r)) $$ Hsem with HB
  sl_for (issueInv d i tbl ids r (smemW.view.write (Elt F) w (wp_chunk.sl.dma0 i ids r) Finset.univ) f) $$ [Ht Hw Hf HB]
  case region =>
    intro k a
    iintro H
    iapply (issue_step d i tbl ids r hids _ f (fetched i ids r w) k a)
    iexact H
  · unfold issueInv
    isplitl [Ht]; · iexists _; iexact Ht
    isplitl [Hw]; · iexact Hw
    isplitl [Hf]
    · iapply (Entails.of_eq (congrArg (fun I => iprop(sharedW.view.loc (thr d i) ↦[I]{fullShare} f)) (rows_rest_zero _)).symm) $$ Hf
    iexact HB
  iintro %a HI
  unfold issueInv
  icases HI with ⟨Ht, Hw, Hf, HB⟩
  sl_for (drainInv d i tbl ids O W r) $$ [HB HO]
  case region =>
    intro k a
    iintro H
    iapply (drain_step d i tbl ids O W r hO k a)
    iexact H
  · unfold drainInv
    isplitl [HB]; · iexact HB
    isplitr; · iexact Hlv
    iexists _
    isplitr; swap; · iexact HO
    ipureintro
    intro p hp
    rcases Finset.mem_insert.1 hp with rfl | hp
    · exact .inr rfl
    · exact hW' p hp
  iintro %a' HI
  unfold drainInv
  icases HI with ⟨HB, -, %W'', %hW'', HO⟩
  rw [show Scf.trips k0_t1_loop.lb k0_t1_loop.ub k0_t1_loop.st = 512 from trips_eq]
  imod (Transfers.batch_collect' EC (thr d i) (N := rowAmt) (ι := (none : HIx 1)) (n := 512) (sm := rowSem) (D := rowD d i tbl ids r) (by decide)) $$ HB with ⟨HD, Hsem⟩
  sl_exec
  sl_step
  isplitl [Ht]; · iexact Ht
  isplitl [Hi]; · iexists _; iexact Hi
  isplitl [Hw]; · iexists _; iexact Hw
  isplitl [Hf HD]
  · iapply (rows_join d i tbl ids r f hf)
    isplitl [HD]; · iexact HD
    iexact Hf
  isplitl [Hsem]; · iexact Hsem
  isplitl [Hs Hsems]
  · iapply (Entails.of_eq (SparseCore.bigSep_erase' (Finset.mem_univ r)).symm)
    isplitl [Hs]; · iexact Hs
    iexact Hsems
  iexists _
  isplitr; swap; · iexact HO
  ipureintro
  exact hW''

/-- A chunk, then the rest. -/
theorem chunk_then (r : Fin 7) (hids : ∀ j, (ids j).toNat < 1000000) (hO : ∀ g, O g none = 0) (R : sProp 𝕄)
    {rest : Prog (TpuEff nD τ sig (Elt F) Λ₀ (.scScalar ((i 0).castLE hcore0))) PUnit.{1}} {Q : PUnit.{1} → sProp 𝕄}
    (h : iprop(levAts (K (F := F)).L (K (F := F)).lev ∗ chunkSt d i tbl ids O W (r.val + 1) ∗ R)
      ⊢ wp frame (wpE (defs₀ (F := F)) 𝒱₀ (thr d i) none) Set.univ rest Q) :
    iprop(levAts (K (F := F)).L (K (F := F)).lev ∗ chunkSt d i tbl ids O W r.val ∗ R)
      ⊢ wp frame (wpE (defs₀ (F := F)) 𝒱₀ (thr d i) none) Set.univ (chunk i r >>= fun _ => rest) Q := by
  rw [wp_bind]
  iintro ⟨#Hlv, Hst, HR⟩
  iapply (wp_wand frame _ Set.univ) $$ [Hst]
  · iapply (wp_chunk d i tbl ids O W r hids hO)
    isplitr; · iexact Hlv
    iexact Hst
  iintro %a Hst
  iapply h
  isplitr; · iexact Hlv
  isplitl [Hst]; · iexact Hst
  iexact HR

/-- The filled buffer, copied out, puts the gathered rows into the SparseCore's half. -/
theorem out_write (f : S3584x64.Idx → Elt F .f32) (hf : ∀ p, (p 0).val < 512 * 7 → f p = halfOf i (gathered tbl ids) p)
    (o : S7168x64.Idx → Elt F .f32) :
    ∀ p ∈ (outSlice i).view.set, (outSlice i).view.writes (Elt F) o [⟨Rect.whole S3584x64, ReadAs.same.apply (sharedW.view.read (Elt F) f)⟩] p
      = gathered tbl ids p := by
  intro p hp
  obtain ⟨x, -, rfl⟩ := Finset.mem_map.mp hp
  rw [← View.write_univ_eq_writes_whole, View.write_emb_of_mem _ _ (Finset.mem_univ x)]
  have h := (x 0).isLt
  change _ < 3584 at h
  refine (hf x (by omega)).trans ?_
  have hi := (i 0).isLt
  change _ < 2 at hi
  refine congrArg (gathered tbl ids) (funext fun a => ?_)
  match a with
  | 0 =>
    apply Fin.ext
    refine .trans ?_ (ValueKit.view_emb_slice_whole_unit_val _ _ _ _ _ _).symm
    show 3584 * (i 0).val + (x 0).val = (Scalar.muli (BitVec.ofNat 32 (i 0).val) 3584#32).toNat + (x 0).val
    simp only [Scalar.muli, IntOp.muli, BitVec.toNat_mul, BitVec.toNat_ofNat]
    generalize (i 0).val = b at hi ⊢
    rcases (by omega : b = 0 ∨ b = 1) with rfl | rfl <;> omega
  | 1 =>
    apply Fin.ext
    refine .trans ?_ (ValueKit.view_emb_slice_whole_unit_val _ _ _ _ _ _).symm
    show (x 1).val = 0 + (x 1).val
    omega

/-- The copy out, with the buffer filled: the SparseCore's half of the array is gathered. -/
theorem wp_copyOut (hO : ∀ g, O g none = 0) :
    iprop(levAts (K (F := F)).L (K (F := F)).lev ∗ chunkSt d i tbl ids O W 7
        ∗ semVal (thr d i, SemLoc.dma cc0_scoped7.sem) 0 ∗ ∃ o, (outSlice i).view.loc (thr d i) ↦[(outSlice i).view.set]{fullShare} o)
      ⊢ wp frame (wpE (defs₀ (F := F)) 𝒱₀ (thr d i) none) Set.univ (copyOut i)
          fun _ => iprop(chunkSt d i tbl ids O W 7 ∗ semVal (thr d i, SemLoc.dma cc0_scoped7.sem) 0
            ∗ (outSlice i).view.loc (thr d i) ↦[(outSlice i).view.set]{fullShare} gathered tbl ids) := by
  unfold chunkSt copyOut
  iintro ⟨#Hlv, ⟨Ht, Hi, Hw, ⟨%f, %hf, Hf⟩, Hsem, Hsems, %W', %hW', HO⟩, Hs, %o, Ho⟩
  ihave Hmw := ((K (F := F)).mayWaits_none (thr := thr d i) hO) $$ Hlv
  sl_exec
  sl_step
  isplitr [Hs Ho]
  · isplitl [Ht]; · iexact Ht
    isplitl [Hi]; · iexact Hi
    isplitl [Hw]; · iexact Hw
    isplitl [Hf]
    · iexists _
      isplitr; swap; · iexact Hf
      ipureintro
      exact hf
    isplitl [Hsem]; · iexact Hsem
    isplitl [Hsems]; · iexact Hsems
    iexists _
    isplitr; swap; · iexact HO
    ipureintro
    intro p hp
    rcases Finset.mem_insert.1 hp with rfl | hp
    · exact .inr rfl
    · exact hW' p hp
  isplitl [Hs]; · iexact Hs
  iapply (Entails.of_eq (pointsTo_congr (out_write i tbl ids f hf o))) $$ Ho

/-- One SparseCore's whole program. -/
theorem wp_gather (hids : ∀ j, (ids j).toNat < 1000000) (hO : ∀ g, O g none = 0) :
    iprop(levAts (K (F := F)).L (K (F := F)).lev ∗ chunkSt d i tbl ids O W 0
        ∗ semVal (thr d i, SemLoc.dma cc0_scoped7.sem) 0 ∗ ∃ o, (outSlice i).view.loc (thr d i) ↦[(outSlice i).view.set]{fullShare} o)
      ⊢ wp frame (wpE (defs₀ (F := F)) 𝒱₀ (thr d i) none) Set.univ (gatherProg i)
          fun _ => iprop(chunkSt d i tbl ids O W 7 ∗ semVal (thr d i, SemLoc.dma cc0_scoped7.sem) 0
            ∗ (outSlice i).view.loc (thr d i) ↦[(outSlice i).view.set]{fullShare} gathered tbl ids) := by
  refine chunk_then d i tbl ids O W 0 hids hO _ ?_
  refine chunk_then d i tbl ids O W 1 hids hO _ ?_
  refine chunk_then d i tbl ids O W 2 hids hO _ ?_
  refine chunk_then d i tbl ids O W 3 hids hO _ ?_
  refine chunk_then d i tbl ids O W 4 hids hO _ ?_
  refine chunk_then d i tbl ids O W 5 hids hO _ ?_
  refine chunk_then d i tbl ids O W 6 hids hO _ ?_
  exact wp_copyOut d i tbl ids O W hO

end Cert.Proof

end
-- ==== Proof.Obligation.lean ====
/-
  One SparseCore's obligation to the launch: what the call hands its sequencer and takes back, its scratch
  buffers and semaphores opened for the kernel and closed after it.
-/
module

public import proofs.«01_k».proof.Proof.Gather

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The row numbers and the arrays -/

/-- The row numbers the kernel gathers: the two index arrays and the flattened third, one after the other. -/
def idsOf (m : (ℓ : Loc nD τ sig) → Buf (Elt F) ℓ) (d : Dev nD) : S7168.Idx → BitVec 32 :=
  concatenate S7168 0 [⟨S1024, (m ((SparseCore.T d).loc main_arg0) : S1024.Idx → BitVec 32)⟩, ⟨S1024, (m ((SparseCore.T d).loc main_arg1) : S1024.Idx → BitVec 32)⟩,
    ⟨S5120, shapeCast S5120 (m ((SparseCore.T d).loc main_arg2) : S1024x5.Idx → BitVec 32) shapeCasts_S1024x5_S5120⟩] concatenates_S1024_S1024_S5120_S7168_d0

/-- The table as the launch finds it. -/
abbrev tableOf (m : (ℓ : Loc nD τ sig) → Buf (Elt F) ℓ) (d : Dev nD) : S1000000x64.Idx → Elt F .f32 := m ((SparseCore.T d).loc main_arg3)

/-- The rows gathered by the numbers. -/
abbrev rowsOf (m : (ℓ : Loc nD τ sig) → Buf (Elt F) ℓ) (d : Dev nD) : S7168x64.Idx → Elt F .f32 := gathered (tableOf m d) (idsOf m d)

variable (m : (ℓ : Loc nD τ sig) → Buf (Elt F) ℓ)

/-- The elements of the gathered array that SparseCore `c` writes. -/
def half (c : Fin (grid0.bound 0)) : Finset S7168x64.Idx := (outSlice (coordsS c)).view.set

/-- What the call hands SparseCore `c`: a share of the table and of the row numbers, its half of the array. -/
def stOf (d : Dev nD) (c : Fin (grid0.bound 0)) : sProp 𝕄 :=
  iprop((∃ q, (SparseCore.T d).loc main_arg3 ↦{q} tableOf m d) ∗ (∃ q, (SparseCore.T d).loc main_v1 ↦{q} idsOf m d)
    ∗ ∃ f, (SparseCore.T d).loc main_v2 ↦[half c]{fullShare} f)

/-- What it takes back: the half, gathered. -/
def dnOf (d : Dev nD) (c : Fin (grid0.bound 0)) : sProp 𝕄 := (SparseCore.T d).loc main_v2 ↦[half c]{fullShare} rowsOf m d

instance stOf_storable (d : Dev nD) (c : Fin (grid0.bound 0)) : BI.Storable (upEmb : UEmb _ 𝕄) (stOf m d c) := by
  unfold stOf; infer_instance
instance dnOf_storable (d : Dev nD) (c : Fin (grid0.bound 0)) : BI.Storable (upEmb : UEmb _ 𝕄) (dnOf m d c) := by
  unfold dnOf; infer_instance

/-- SparseCore `c` of the call, as a grid point's number. -/
def coreOf (q : Fin 1) (c : Fin ((K (F := F)).nCore q)) : Fin (grid0.bound 0) :=
  ⟨c.val, by obtain rfl := Subsingleton.elim q 0; exact c.isLt⟩

/-- The call's payloads. -/
def P : (K (F := F)).Pay (nD := nD) (Val := Elt F) (Name := ℕ) (U := UU) where
  st := fun q d c => stOf m d (coreOf q c)
  dn := fun q d c => dnOf m d (coreOf q c)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's scratch -/

/-- The chunks' semaphores, one each. -/
def chunkSems : Fin 7 ↪ SemLoc sig := ⟨fun r => .dma (chunkSem r), fun a b h => by revert a b; decide⟩

/-- The semaphores the kernel names. -/
def semsUsed : Finset (SemLoc sig) := insert rowSem (insert (.dma cc0_scoped7.sem) (Finset.univ.map chunkSems))

/-- The sequencer's scoped semaphores. -/
abbrev semsAll : Finset (SemLoc sig) := Finset.univ.filter fun sm => sm.isScoped Kind.scScalar

/-- The semaphores used are among all of them. -/
theorem semsUsed_sub : semsUsed ⊆ semsAll := by
  intro sm h
  rw [Finset.mem_filter]
  refine ⟨Finset.mem_univ _, ?_⟩
  revert sm; decide

/-- The sequencer's semaphores at zero: those the kernel names, and the rest. -/
theorem sems_eq (d : Dev nD) (c : Fin τ.nSC) :
    (ownSems0 (S d c) : sProp 𝕄)
      = iprop((semVal (S d c, rowSem) 0 ∗ semVal (S d c, .dma cc0_scoped7.sem) 0 ∗ bigSep Finset.univ fun r : Fin 7 => semVal (S d c, .dma (chunkSem r)) 0)
          ∗ bigSep (semsAll \ semsUsed) fun sm => semVal (S d c, sm) 0) := by
  rw [SparseCore.Cfg.ownSems0_eq]
  refine (SparseCore.bigSep_sdiff_split' semsUsed_sub).trans ?_
  rw [semsUsed, SparseCore.bigSep_insert' (by decide), SparseCore.bigSep_insert' (by decide), bigSep_map]
  rfl

/-- The two scratch buffers of SparseCore `c`, as the device names them. -/
abbrev smemRef (c : Fin τ.nSC) : DevRef τ sig := Proc.devRef (.scScalar c) cc0_scratch0
abbrev sharedRef (c : Fin τ.nSC) : DevRef τ sig := Proc.devRef (.scScalar c) cc0_scratch1

/-- The scalar memory is the sequencer's own. -/
theorem smem_mem (c : Fin τ.nSC) : smemRef c ∈ ownRefs (sig := sig) (Proc.scScalar c) := mem_ownRefs.mpr rfl
/-- So is the shared memory, apart from the scalar memory. -/
theorem shared_mem (c : Fin τ.nSC) : sharedRef c ∈ (ownRefs (sig := sig) (Proc.scScalar c)).erase (smemRef c) :=
  Finset.mem_erase.mpr ⟨fun h => by have := congrArg DevRef.owner h; exact absurd this (by intro h'; cases h'), mem_ownRefs.mpr rfl⟩

/-- The sequencer's buffers: the two scratch buffers at some contents, and the rest. -/
theorem bufs_eq (d : Dev nD) (c : Fin τ.nSC) :
    (ownBufs (S d c) : sProp 𝕄)
      = iprop((∃ f, smemW.view.loc (S d c) ↦{fullShare} f) ∗ (∃ f, sharedW.view.loc (S d c) ↦{fullShare} f)
          ∗ bigSep (((ownRefs (sig := sig) (Proc.scScalar c)).erase (smemRef c)).erase (sharedRef c)) fun b => iprop(∃ f, ((d, b) : Loc nD τ sig) ↦{fullShare} f)) := by
  unfold SparseCore.Cfg.ownBufs
  rw [SparseCore.bigSep_erase' (smem_mem c), SparseCore.bigSep_erase' (shared_mem c)]

variable [FloatOps F] [Named F]

/-! ## The kernel from the launch's hands and back -/

/-- The kernel of SparseCore `c`: from its payload and scratch to its half gathered and the scratch again. -/
theorem gather_body (hids : ∀ d j, (idsOf m d j).toNat < 1000000) (d : Dev nD) (c : Fin (grid0.bound 0))
    (O : CellTallies nD τ sig (HIx 1)) (W : Waits sig (HIx 1)) (hO : ∀ g, O g none = 0) :
    iprop(levAts (K (F := F)).L (K (F := F)).lev ∗ emp ∗ stOf m d c
        ∗ scopedBufs (S d (c.castLE hcore0)) ∗ scopedSems0 (S d (c.castLE hcore0)) ∗ owes (S d (c.castLE hcore0)) O W)
      ⊢ wp frame (wpE (defs₀ (F := F)) 𝒱₀ (S d (c.castLE hcore0)) none) Set.univ (gatherProg (coordsS c))
          fun _ => iprop(dnOf m d c ∗ scopedBufs (S d (c.castLE hcore0)) ∗ scopedSems0 (S d (c.castLE hcore0))
            ∗ ∃ W', ⌜∀ p ∈ W', p ∈ W ∨ p.2 = none⌝ ∗ owes (S d (c.castLE hcore0)) O W') := by
  unfold stOf dnOf half
  iintro ⟨#Hlv, -, ⟨Htab, Hids, Hout⟩, Hsb, Hss, HO⟩
  ihave Hss := (SparseCore.Cfg.scopedSems0_S_elim (Val := Elt F) d (c.castLE hcore0)) $$ Hss
  icases Hss with ⟨Hown, Hsubs⟩
  ihave Hown := (Entails.of_eq (sems_eq (F := F) d (c.castLE hcore0))) $$ Hown
  icases Hown with ⟨⟨Hrow, Hcp, Hch⟩, Hrest⟩
  ihave Hsb := ((K (F := F)).scopedBufs_S_elim launchFacts d (c.castLE hcore0)) $$ Hsb
  icases Hsb with ⟨Hbo, Hbsubs⟩
  ihave Hbo := (Entails.of_eq (bufs_eq (F := F) d (c.castLE hcore0))) $$ Hbo
  icases Hbo with ⟨Hsm, ⟨%fs, Hsh⟩, Hbrest⟩
  ihave H := (wp_gather d (coordsS c) (tableOf m d) (idsOf m d) O W (hids d) hO) $$ [Htab Hids Hout Hrow Hcp Hch Hsm Hsh HO]
  · isplitr; · iexact Hlv
    isplitl [Htab Hids Hrow Hch Hsm Hsh HO]
    · unfold chunkSt
      isplitl [Htab]; · iexact Htab
      isplitl [Hids]; · iexact Hids
      isplitl [Hsm]; · iexact Hsm
      isplitl [Hsh]
      · iexists fs; isplitr
        · ipureintro; intro p hp; exact absurd hp (by omega)
        · iexact Hsh
      isplitl [Hrow]; · iexact Hrow
      isplitl [Hch]; · iexact Hch
      iexists W; isplitr
      · ipureintro; exact fun p hp => .inl hp
      · iexact HO
    isplitl [Hcp]; · iexact Hcp
    iexact Hout
  iapply (wp_wand frame _ Set.univ) $$ [H]
  · iexact H
  iintro %_ ⟨Hst, Hcp, Hout⟩
  unfold chunkSt
  icases Hst with ⟨-, -, Hsm, ⟨%f', -, Hsh⟩, Hrow, Hch, HO⟩
  isplitl [Hout]; · iexact Hout
  isplitl [Hsm Hsh Hbrest Hbsubs]
  · iapply ((K (F := F)).scopedBufs_S_intro launchFacts d _)
    isplitl [Hsm Hsh Hbrest]
    · rw [bufs_eq]
      isplitl [Hsm]; · iexact Hsm
      isplitl [Hsh]; · iexists f'; iexact Hsh
      iexact Hbrest
    · iexact Hbsubs
  isplitl [Hrow Hch Hcp Hrest Hsubs]
  · iapply (SparseCore.Cfg.scopedSems0_S_intro (Val := Elt F) d _)
    isplitl [Hrow Hch Hcp Hrest]
    · rw [sems_eq]
      isplitl [Hrow Hch Hcp]
      · isplitl [Hrow]; · iexact Hrow
        isplitl [Hcp]; · iexact Hcp
        iexact Hch
      · iexact Hrest
    · iexact Hsubs
  iexact HO

/-! ## The launch theorem's obligation -/

/-- What the body table runs on a sequencer. -/
theorem defs₀_scalar (c : Fin τ.nSC) :
    defs₀ (F := F) (.scScalar c) 0 ()
      = SparseCore.onCore hcore0 (fun c => cc0_gather_k (coordsS c) tableW (Memref.isWhole_whole _) idsW (Memref.isWhole_whole _) outW (Memref.isWhole_whole _) smemW (Memref.isWhole_whole _)
        sharedW (Memref.isWhole_whole _) cc0_scratch2 cc0_scoped0 cc0_scoped1 cc0_scoped2 cc0_scoped3 cc0_scoped4 cc0_scoped5 cc0_scoped6 cc0_scoped7) ⟨⟩ c := rfl

/-- The waits left over fit the call. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each sequencer's run of the call meets the launch's obligation. -/
theorem scalarObl (hids : ∀ d j, (idsOf m d j).toNat < 1000000) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  rw [cc0_gather_k_eq]
  exact (gather_body m hids d ⟨c.val, c.isLt⟩ O W hO).trans (wp_mono frame _ _ fun _ => obl_post)

end Cert.Proof

end
-- ==== Proof.Loss.lean ====
/-
  The TensorCore's kernel: its body run at a symbolic grid point, the running sum it keeps in the result's one
  buffer, and the region of @main that runs it over the gathered rows.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value

@[expose] public section

noncomputable section

namespace Cert.Proof

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

/-- Memref `M`'s buffer on device `c`'s TensorCore: its contents. -/
abbrev Bf (F : FTy → Type) (c : Dev nD) {sp : Space} {S : Shape} {e : EltTy} (M : Memref sig .tc sp S e) : Type :=
  Buf (Elt F) (M.view.loc (c : Thread nD τ))

/-- It held whole at `f`. -/
abbrev pt (c : Dev nD) {sp : Space} {S : Shape} {e : EltTy} (M : Memref sig .tc sp S e) (f : Bf F c M) : sProp 𝕄 :=
  M.view.loc (c : Thread nD τ) ↦{fullShare} f

/-- The zero offsets, as a constant function. -/
theorem hz : (![0, 0] : Fin 2 → Nat) = fun _ => 0 := funext fun a => by fin_cases a <;> rfl

/-- The whole rectangle holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store over the whole of a buffer, last, leaves its payload. -/
theorem read_store {sp : Space} {S : Shape} {e : EltTy} [∀ e, Nonempty (Elt F e)] (v : View sig .tc sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ fun y => ⟨_, List.mem_cons_self, mem_unit_zero h inb y⟩).trans (View.canon_cons_unit_zero h inb w L)

/-- What the body finds in the running sum at grid point `i`: zero at the first point, else what it left. -/
def accOf (i : grid1.Coords) (x : Vec F S1x1 .f32) : Vec F S1x1 .f32 := if (i 0).val = 0 then k1_pay1 else x

/-- The branch condition of the body at a grid point: the point is the first. -/
theorem cond_iff (n : ℕ) (hn : n < 12) :
    Scalar.cmpi .ne (Scalar.extui (Scalar.cmpi .eq (BitVec.ofNat 32 n) 0#32) : BitVec 32) 0#32 = 1#1 ↔ n = 0 := by
  interval_cases n <;> decide

set_option maxHeartbeats 1600000 in
/-- The body at grid point `i`: it leaves both row buffers as they were, and in the running sum's buffer the
    point's payload over the rows and the sum so far. -/
theorem body_run (c : Dev nD) (i : grid1.Coords) (M0 : Memref sig .tc .vmem S1024x64 .f32) (h0 : M0.IsWhole)
    (M1 : Memref sig .tc .vmem S512x64 .f32) (h1 : M1.IsWhole) (M2 : Memref sig .tc .vmem S1x1 .f32) (h2 : M2.IsWhole)
    (f0 : Bf F c M0) (f1 : Bf F c M1) (f2 : Bf F c M2) :
    (iprop(pt c M0 f0 ∗ pt c M1 f1 ∗ pt c M2 f2) : sProp 𝕄)
      ⊢ wp frame (wpE (defs₀ (F := F)) 𝒱₀ c none) Set.univ (cc1__tc_body i M0 h0 M1 h1 M2 h2) fun _ =>
          iprop(pt c M0 f0 ∗ pt c M1 f1 ∗ ∃ g, ⌜M2.view.read (Elt F) g
            = k1_pay2 i (M0.view.read (Elt F) f0) (M1.view.read (Elt F) f1) (accOf i (M2.view.read (Elt F) f2))⌝ ∗ pt c M2 g) := by
  rw [cc1__tc_body_eq_skeleton]
  have hi : (i 0).val < 12 := (i 0).isLt
  by_cases hc : (i 0).val = 0
  · have hcond := (cond_iff (i 0).val hi).mpr hc
    have hacc : accOf i (M2.view.read (Elt F) f2) = k1_pay1 := if_pos hc
    rw [hacc]
    unfold cc1__tc_body_skel
    simp only [dif_pos hcond]
    iintro ⟨H0, H1, H2⟩
    sl_exec!
    sl_step
    isplitl [H0]; · iexact H0
    isplitl [H1]; · iexact H1
    iexists _
    isplitr
    swap
    · iexact H2
    ipureintro
    sl_unfold_words
    refine (read_store (S := S1x1) M2.view _ hz inb_S1x1_S1x1_0_0 _ _).trans ?_
    rw [View.readCov_unit_zero (S := S1x1) _ hz]
    exact congrArg₂ (fun a b => k1_pay2 i a b k1_pay1) (View.ld_unit_zero (S := S1024x64) hz _ _) (View.ld_unit_zero (S := S512x64) hz _ _)
  · have hcond := fun h => hc ((cond_iff (i 0).val hi).mp h)
    have hacc : accOf i (M2.view.read (Elt F) f2) = M2.view.read (Elt F) f2 := if_neg hc
    rw [hacc]
    unfold cc1__tc_body_skel
    simp only [dif_neg hcond]
    iintro ⟨H0, H1, H2⟩
    sl_exec!
    sl_step
    isplitl [H0]; · iexact H0
    isplitl [H1]; · iexact H1
    iexists _
    isplitr
    swap
    · iexact H2
    ipureintro
    sl_unfold_words
    refine (read_store (S := S1x1) M2.view _ hz inb_S1x1_S1x1_0_0 _ _).trans ?_
    refine (congrArg₂ (fun a b => k1_pay2 i a b _) (View.ld_unit_zero (S := S1024x64) hz _ _) (View.ld_unit_zero (S := S512x64) hz _ _)).trans ?_
    exact congrArg (k1_pay2 i _ _) (View.ld_unit_zero (S := S1x1) hz _ _)

/-! ## The proof data -/

section Region

variable (G : Dev nD → S7168x64.Idx → Elt F .f32) (o : Dev nD → S1x1.Idx → Elt F .f32)

/-- The source rows as the first window stages them at point `t`. -/
abbrev srcBlk (c : Dev nD) (t : Fin cfg1.N) : Vec F S1024x64 .f32 := ((cfg1.win 0).blk t).view.read (Elt F) (G c)

/-- The 512 rows the second window stages at point `t`. -/
abbrev rowBlk (c : Dev nD) (t : Fin cfg1.N) : Vec F S512x64 .f32 := ((cfg1.win 1).blk t).view.read (Elt F) (G c)

/-- The running sum after point `n`. -/
def chain (c : Dev nD) : (n : ℕ) → n < cfg1.N → Vec F S1x1 .f32
  | 0, h => k1_pay2 (grid1.coords ⟨0, h⟩) (srcBlk G c ⟨0, h⟩) (rowBlk G c ⟨0, h⟩) k1_pay1
  | n + 1, h => k1_pay2 (grid1.coords ⟨n + 1, h⟩) (srcBlk G c ⟨n + 1, h⟩) (rowBlk G c ⟨n + 1, h⟩) (chain c n (Nat.lt_of_succ_lt h))

/-- The level every wait recorded before the region sits at or below. -/
abbrev cut : ℕ := 8 * (inferInstance : SparseCore.Cfg.Blocks 1 1).fst 1

/-- The region's proof data, from the gathered rows `G` and any contents `o` of the result: the row buffers are left
    as fetched, the result's buffer at the running sum; nothing owed. -/
def dat (c : Dev nD) : Dat τ (Elt F) (HIx 1) ℕ UU ℕ cfg1 c where
  A w := match w with
    | ⟨0, _⟩ => G c
    | ⟨1, _⟩ => G c
    | ⟨2, _⟩ => o c
  after w t := match w with
    | ⟨0, _⟩ => srcBlk G c t
    | ⟨1, _⟩ => rowBlk G c t
    | ⟨2, _⟩ => chain G c t.val t.isLt
  Φ _ := BI.emp
  q w := Pipeline.shareOf spec1 w
  owed _ := 0
  recorded _ := {p | (K (F := F)).lev (c.tc, p.1) p.2 ≤ cut}

abbrev adm : (p : Fin 1) → (pcfgs (F := F) p).Adm := fun p => (cfgs p).toPCfg_adm

/-- The family of one. -/
def pdats : (p : Fin 1) → (c : Dev nD) → Dat τ (Elt F) (HIx 1) ℕ UU ℕ (Pipeline.pin (pcfgs (F := F)) adm p) c
  | ⟨0, _⟩ => fun c => dat G o c

/-- A grid point's coordinate is its number. -/
theorem coords_val : ∀ t : Fin grid1.N, (grid1.coords t 0).val = t.val := by decide +kernel

/-- At every point the body finds the source rows, -/
theorem before_0 (c : Dev nD) (t : Fin cfg1.N) (d) : (dat G o c).before 0 t d = srcBlk G c t := by
  rw [Dat.before_in_eq_fetched (dat G o c) 0 rfl (fun _ => rfl) (fun _ _ _ => rfl) (fun _ => rfl)]
  rfl

/-- the point's 512 rows, -/
theorem before_1 (c : Dev nD) (t : Fin cfg1.N) (d) : (dat G o c).before 1 t d = rowBlk G c t := by
  rw [Dat.before_in_eq_fetched (dat G o c) 1 rfl (fun _ => rfl) (fun _ _ _ => rfl) (fun _ => rfl)]
  rfl

/-- and, after the first point, the running sum so far. -/
theorem before_2 (c : Dev nD) (t : Fin cfg1.N) (d) :
    k1_pay2 (grid1.coords t) (srcBlk G c t) (rowBlk G c t) (accOf (grid1.coords t) ((dat G o c).before 2 t d)) = chain G c t.val t.isLt := by
  obtain ⟨n, hn⟩ := t
  have hN : cfg1.N = 12 := N_1
  cases n with
  | zero => unfold accOf; rw [if_pos (coords_val ⟨0, hn⟩)]; rfl
  | succ n =>
    unfold accOf
    rw [if_neg (by rw [coords_val ⟨n + 1, hn⟩]; exact Nat.succ_ne_zero n)]
    rw [Dat.before_out_kept (dat G o c) 2 rfl ⟨n + 1, hn⟩ (Nat.succ_ne_zero n)
      (by rw [Bool.eq_false_iff, Ne, flush1_2]; show ¬ n % 12 = 11; omega) (fun _ => rfl) (fun _ _ => rfl)]
    rfl

/-- A whole buffer owned at what it reads is the buffer held at some contents that read so. -/
theorem owns_of_whole (c : Thread nD τ) {sp : Space} {S : Shape} {e : EltTy} {M : Memref sig c.2.kind sp S e} (h : M.IsWhole)
    (q : PosShare TreeShare) (X : S.Idx → Elt F e) :
    (owns c M q X : sProp 𝕄) = iprop(∃ f, ⌜M.view.read (Elt F) f = X⌝ ∗ M.view.loc c ↦{q} f) := by
  unfold owns; rw [h.set_eq_univ]

/-- The body obligation of the region. -/
theorem body_obligation (c : Dev nD) : BodyObligation (dat G o c) (defs₀ (F := F)) 𝒱₀ none Set.univ := fun t => by
  rw [bigSep_W1, bigSep_W1]
  rw [show (dat G o c).Φ t.castSucc = BI.emp from rfl, show (dat G o c).Φ t.succ = BI.emp from rfl,
    show (dat G o c).owesAt none t.succ = (dat G o c).owesAt none t.castSucc from rfl]
  have h0 : ((cfg1.win 0).stage (cfg1.slots t 0)).IsWhole := hstage1_0 ((cfg1.slots t 0).cast nbuf1_0)
  have e0 := fun X => owns_of_whole (F := F) (c : Thread nD τ) (M := (cfg1.win 0).stage (cfg1.slots t 0)) h0 fullShare X
  have h1 : ((cfg1.win 1).stage (cfg1.slots t 1)).IsWhole := hstage1_1 ((cfg1.slots t 1).cast nbuf1_1)
  have e1 := fun X => owns_of_whole (F := F) (c : Thread nD τ) (M := (cfg1.win 1).stage (cfg1.slots t 1)) h1 fullShare X
  have h2 : ((cfg1.win 2).stage (cfg1.slots t 2)).IsWhole := hstage1_2 ((cfg1.slots t 2).cast nbuf1_2)
  have e2 := fun X => owns_of_whole (F := F) (c : Thread nD τ) (M := (cfg1.win 2).stage (cfg1.slots t 2)) h2 fullShare X
  iintro ⟨HΦ, Howes, ⟨%d0, H0⟩, ⟨%d1, H1⟩, ⟨%d2, H2⟩⟩
  ihave H0 := Entails.of_eq (e0 _) $$ H0
  ihave H1 := Entails.of_eq (e1 _) $$ H1
  ihave H2 := Entails.of_eq (e2 _) $$ H2
  icases H0 with ⟨%f0, %hf0, H0⟩
  icases H1 with ⟨%f1, %hf1, H1⟩
  icases H2 with ⟨%f2, %hf2, H2⟩
  rw [before_0] at hf0
  rw [before_1] at hf1
  iapply (wp_wand frame _ Set.univ) $$ [H0 H1 H2]
  · iapply (body_run c (grid1.coords t) (win1_0.stage (cfg1.slots t 0)) (hstage1_0 ((cfg1.slots t 0).cast nbuf1_0)) (win1_1.stage (cfg1.slots t 1))
      (hstage1_1 ((cfg1.slots t 1).cast nbuf1_1)) (win1_2.stage (cfg1.slots t 2)) (hstage1_2 ((cfg1.slots t 2).cast nbuf1_2)) f0 f1 f2)
    isplitl [H0]; · iexact H0
    isplitl [H1]; · iexact H1
    iexact H2
  iintro %_ ⟨H0, H1, ⟨%g, %hg, H2⟩⟩
  isplitl [HΦ]; · iexact HΦ
  isplitl [Howes]; · iexact Howes
  isplitl [H0]
  · iapply (Entails.of_eq (e0 _).symm)
    iexists f0; isplitr; · ipureintro; exact hf0
    iexact H0
  isplitl [H1]
  · iapply (Entails.of_eq (e1 _).symm)
    iexists f1; isplitr; · ipureintro; exact hf1
    iexact H1
  iapply (Entails.of_eq (e2 _).symm)
  iexists g; isplitr
  · ipureintro
    refine hg.trans ?_
    rw [hf0, hf1, hf2]
    exact before_2 G o c t d2
  iexact H2

/-! ## The region -/

/-- The loss the region leaves: the running sum after the last point. -/
abbrev loss (c : Dev nD) : S1x1.Idx → Elt F .f32 := chain G c 11 (by rw [show cfg1.N = 12 from N_1]; decide)

/-- The result's array after the region. -/
theorem final_v3 (c : Dev nD) : (dat G o c).arrAt 2 cfg1.N = loss G c :=
  (dat G o c).arrAt_eq_of_after_last 2 t1_11 (by decide +kernel) _ fun j => rfl

/-- The two arrays of the windows, held. -/
theorem arrBufs1_eq (c : Dev nD) (V : (b : Ref sig .tc) → Buf (Elt F) ((c : Thread nD τ).loc b)) :
    (Pipeline.arrBufs spec1 c V : sProp 𝕄)
      = iprop((((c : Thread nD τ).loc main_v2) ↦{fullShare} V main_v2) ∗ (((c : Thread nD τ).loc main_v3) ↦{fullShare} V main_v3)) := by
  unfold Pipeline.arrBufs
  rw [show (Finset.univ.image (Pipeline.arrRef spec1)) = {main_v2, main_v3} by decide,
    show ({main_v2, main_v3} : Finset (Ref sig .tc)) = insert main_v2 {main_v3} from rfl,
    BI.bigSep_insert (by decide), BI.bigSep_singleton]
  rfl

/-- The valuation of the windows' arrays: the rows, and contents `w` of the result. -/
def arrV (c : Dev nD) (w : S1x1.Idx → Elt F .f32) (b : Ref sig .tc) : Buf (Elt F) ((c : Thread nD τ).loc b) :=
  if h : b = main_v3 then h ▸ w else if h : b = main_v2 then h ▸ G c else fun _ => Classical.arbitrary _

/-- The gathered rows are at the rows. -/
theorem arrV_v2 (c : Dev nD) (w) : arrV G c w main_v2 = G c := by
  unfold arrV; rw [dif_neg (by decide), dif_pos rfl]
/-- The loss's buffer is at its contents. -/
theorem arrV_v3 (c : Dev nD) (w) : arrV G c w main_v3 = w := by
  unfold arrV; rw [dif_pos rfl]

/-- The windows' arrays, each at its window's contents, are the two buffers. -/
theorem arrays_eq (c : Dev nD) (w : S1x1.Idx → Elt F .f32) (f : (k : Fin 3) → Buf (Elt F) (((cfg1.win k).arr.view.loc (c : Thread nD τ))))
    (hf0 : f 0 = G c) (hf1 : f 1 = G c) (hf2 : f 2 = w) :
    ((dat G o c).arrays f : sProp 𝕄)
      = iprop((((c : Thread nD τ).loc main_v2) ↦{fullShare} G c) ∗ (((c : Thread nD τ).loc main_v3) ↦{fullShare} w)) := by
  rw [← Dat.arrBufs_eq_arrays (dat G o c) sharedIn1 arr_whole1 (fun _ _ => rfl) (arrV G c w) f
    (fun k => by
      fin_cases k
      · exact hf0.trans (arrV_v2 G c w).symm
      · exact hf1.trans (arrV_v2 G c w).symm
      · exact hf2.trans (arrV_v3 G c w).symm), arrBufs1_eq, arrV_v2, arrV_v3]

/-- What the core owes at either end of the region: nothing, its recorded waits at or below the cut. -/
abbrev idle (c : Dev nD) : sProp 𝕄 :=
  iprop(∃ W, ⌜(K (F := F)).WBelow (c : Thread nD τ) W cut⌝ ∗ owes (c : Thread nD τ) (0 : CellTallies nD τ sig (HIx 1)) W)

set_option backward.isDefEq.respectTransparency.types false in
/-- The region of @main that runs the TensorCore's kernel: from the gathered rows and anything in the result, to the
    rows and the loss. -/
def reg : Pipeline.RegionSeg (pcfgs (F := F)) adm (pdats G o) none defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation G o c).loose
  hwaits := Pipeline.hwaits_of_owed_zero _ _ _ _ _ _ 0 fun _ _ => rfl
  pre c := iprop((((c : Thread nD τ).loc main_v2) ↦{fullShare} G c) ∗ (((c : Thread nD τ).loc main_v3) ↦{fullShare} o c) ∗ idle c)
  post c := iprop((((c : Thread nD τ).loc main_v2) ↦{fullShare} G c) ∗ (((c : Thread nD τ).loc main_v3) ↦{fullShare} loss G c) ∗ idle c)
  X _ := BI.emp
  Y _ := BI.emp
  Z _ := BI.emp
  hentry c := by
    rw [Pipeline.ownSems0_none]
    iintro ⟨⟨H2, H3, HO⟩, -, -⟩
    imodintro
    isplitl [H2 H3]
    · iapply (Entails.of_eq (arrays_eq G o c (o c) (fun k => (dat G o c).arrAt k 0) rfl rfl rfl).symm)
      isplitl [H2] <;> iassumption
    isplitr; · unfold Pipeline.prefHeld; rw [show (Finset.univ : Finset (Fin 0)) = ∅ from rfl, BI.bigSep_empty]; iempintro
    isplitl [HO]
    · icases HO with ⟨%W, %hW, HO⟩; iexists W; isplitr; · ipureintro; exact fun p hp => Or.inl (hW p hp)
      iexact HO
    isplitr <;> iempintro
  hin c := by
    iintro ⟨-, -, -⟩
    iempintro
  hout c := by
    rw [Pipeline.ownSems0_none]
    iintro -
    isplitr; · iempintro
    isplitr; · iempintro
    iapply (Entails.of_eq (scopedRest1_eq c).symm)
    iempintro
  hexit c := by
    have hexit : ((pdats G o 0 c).arrays ((pdats G o 0 c).arrAt · (Pipeline.pin (pcfgs (F := F)) adm 0).N) : sProp 𝕄) ⊢ _ :=
      Entails.of_eq (arrays_eq G o c (loss G c) (fun k => (dat G o c).arrAt k cfg1.N) ((dat G o c).arrAt_in 0 rfl _)
        ((dat G o c).arrAt_in 1 rfl _) (final_v3 G o c))
    iintro ⟨Ha, HO, -, -⟩
    ihave Ha := hexit $$ Ha
    icases Ha with ⟨H2, H3⟩
    imodintro
    isplitl [H2]; · iexact H2
    isplitl [H3]; · iexact H3
    unfold Pipeline.Dat.owesAt Pipeline.owesWithin
    icases HO with ⟨%W, %hW, HO⟩; iexists W; isplitr
    · ipureintro
      intro p hp
      rcases hW hp with h | ⟨w, s, h⟩
      · exact h
      · subst h; exact Nat.zero_le _
    iexact HO

end Region

end Cert.Proof

end
-- ==== Proof.Main.lean ====
/-
  The whole program: @main on the TensorCore (the row numbers, the SparseCores' call, the TensorCore's
  kernel, the result), the launch, and what every run leaves.
-/
module

public import proofs.«01_k».proof.Proof.Obligation
public import proofs.«01_k».proof.Proof.Loss

@[expose] public section

noncomputable section

namespace Cert.Proof

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type}

local notation "𝕄" => MT nD τ sig (HIx 1) (Elt F) ℕ UU ℕ

/-! ## The two halves of the gathered array -/

/-- The rows that one SparseCore writes. -/
theorem mem_half (c : Fin (grid0.bound 0)) (p : S7168x64.Idx) :
    p ∈ half c ↔ 3584 * c.val ≤ (p 0).val ∧ (p 0).val < 3584 * c.val + 3584 := by
  have hc : c.val < 2 := c.isLt
  have e : (Scalar.muli (BitVec.ofNat 32 c.val) 3584#32).toNat = 3584 * c.val := by
    simp only [Scalar.muli, IntOp.muli, BitVec.toNat_mul, BitVec.toNat_ofNat]
    generalize c.val = b at hc ⊢
    rcases (by omega : b = 0 ∨ b = 1) with rfl | rfl <;> omega
  refine (ValueKit.mem_set_slice_whole_iff _ _ _ Rect.mem_set_unit).trans ?_
  constructor
  · intro h
    have h0 := h 0
    change (Scalar.muli (BitVec.ofNat 32 c.val) 3584#32).toNat ≤ (p 0).val
      ∧ (p 0).val < (Scalar.muli (BitVec.ofNat 32 c.val) 3584#32).toNat + 3584 at h0
    rw [e] at h0
    exact h0
  · intro h a
    match a with
    | 0 =>
      show (Scalar.muli (BitVec.ofNat 32 c.val) 3584#32).toNat ≤ (p 0).val
        ∧ (p 0).val < (Scalar.muli (BitVec.ofNat 32 c.val) 3584#32).toNat + 3584
      rw [e]
      exact h
    | 1 => exact ⟨Nat.zero_le _, by have := (p 1).isLt; change _ < 64 at this; show (p 1).val < 0 + 64; omega⟩

/-- The two SparseCores' rows are disjoint. -/
theorem half_disjoint : Disjoint (half ⟨0, Nat.two_pos⟩) (half ⟨1, Nat.one_lt_two⟩) := by
  rw [Finset.disjoint_left]
  intro p h0 h1
  rw [mem_half] at h0 h1
  dsimp only at h0 h1
  omega

/-- The two SparseCores' rows are all the rows. -/
theorem half_union : half ⟨0, Nat.two_pos⟩ ∪ half ⟨1, Nat.one_lt_two⟩ = (Finset.univ : Finset S7168x64.Idx) := by
  ext p
  simp only [Finset.mem_union, Finset.mem_univ, iff_true, mem_half]
  have := (p 0).isLt
  change _ < 7168 at this
  omega

variable (m : (ℓ : Loc nD τ sig) → Buf (Elt F) ℓ) (ρ : Dev nD → PrngReg)

/-- The gathered array is its two halves. -/
theorem v2_halves (d : Dev nD) (f : S7168x64.Idx → Elt F .f32) :
    ((SparseCore.T d).loc main_v2 ↦{fullShare} f : sProp 𝕄)
      ⊣⊢ iprop(((SparseCore.T d).loc main_v2 ↦[half ⟨0, Nat.two_pos⟩]{fullShare} f) ∗ (SparseCore.T d).loc main_v2 ↦[half ⟨1, Nat.one_lt_two⟩]{fullShare} f) := by
  have h := pointsTo_union (Ix := HIx 1) (Name := ℕ) (U := UU) (Lvl := ℕ) (Val := Elt F) (τ := τ) (nD := nD) (ℓ := (SparseCore.T d).loc main_v2) (q := fullShare) (f := f) half_disjoint
  rw [half_union] at h
  exact h

variable [FloatOps F] [Named F]

/-! ## The launch element -/

/-- The staging cells of the TensorCore's kernel are distinct. -/
theorem phinj : Function.Injective (Pipeline.cellOf (nD := nD) (τ := τ) (Pipeline.pin (pcfgs (F := F)) adm)) := cellOf_inj

/-- What the TensorCore's kernel needs of the launch element, per device. -/
def ghostOf (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

/-- The right factor of the launch element gives the pipeline's rounds. -/
theorem hEP (x : UP) : (BI.own ((embR : Emb (UP × Counters) 𝕄) (x, 1)) : sProp 𝕄) ⊢ iprop(BI.own (EP (F := F) x) ∗ emp) := by
  iintro H
  ihave H := (own_pair_emb embR x 1) $$ H
  icases H with ⟨H, -⟩
  isplitl
  · iexact H
  · iempintro

/-- The cells' state and the tokens, device by device. -/
theorem ghost_join :
    iprop((bigSep Finset.univ fun c : Dev nD => bigSep Finset.univ fun p : Fin 1 => Pipeline.cellsGhost (Pipeline.pin (pcfgs (F := F)) adm) EP p c)
        ∗ bigSep Finset.univ fun c : Dev nD => bigSep Finset.univ fun p : Fin 1 => Pipeline.toksInit (Pipeline.pin (pcfgs (F := F)) adm) EP p c)
      ⊢ (bigSep Finset.univ fun d : Dev nD => ghostOf (F := F) d : sProp 𝕄) := by
  refine Entails.of_eq ?_
  unfold ghostOf
  rw [show (Finset.univ : Finset (Dev nD)) = {0} from rfl, bigSep_singleton, bigSep_singleton, bigSep_singleton, bigSep_singleton, bigSep_singleton]

/-- The launch element gives the handshakes' rounds and each device's pipeline ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => ghostOf (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (hEP _) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · iapply ghost_join; isplitl [Hg] <;> iassumption
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## The TensorCore's kernel in @main -/

/-- The TensorCore's kernel as @main calls it, over the arrays of `reg`. -/
theorem region_wp [∀ e, Nonempty (Elt F e)] (G : Dev nD → S7168x64.Idx → Elt F .f32) (o : Dev nD → S1x1.Idx → Elt F .f32) (d : Dev nD) :
    iprop(boundary (SparseCore.T d : Thread nD τ) ∗ (reg G o).pre d ∗ levAts (K (F := F)).L (K (F := F)).lev ∗ ghostOf (F := F) d)
      ⊢ wp frame (wpE ((K (F := F)).defs (D (F := F))) 𝒱 (SparseCore.T d) none) Set.univ
          (Prog.lift (.customCall (SparseCore.inner (Pipeline.entry 0)) ()))
          fun _ => iprop(boundary (SparseCore.T d : Thread nD τ) ∗ (reg G o).post d) := by
  have key : iprop(boundary (SparseCore.T d : Thread nD τ) ∗ (reg G o).pre d ∗ levAts (K (F := F)).L (K (F := F)).lev ∗ ghostOf (F := F) d)
      ⊢ wp frame (wpE (D (F := F)) 𝒱 (SparseCore.T d) none) Set.univ (.op (.customCall (Pipeline.entry (0 : Fin 1)) ()) fun x => .ret x)
          fun _ => iprop(boundary (SparseCore.T d : Thread nD τ) ∗ (reg G o).post d) := by
    unfold ghostOf
    iintro ⟨Hb, Hpre, Hlv, Hg, Ht⟩
    iapply (Pipeline.RegionSeg.wp (pcfgs (F := F)) adm (pdats G o) none phinj EP defs₀ 𝒱₀ (K (F := F)).L (K (F := F)).lev
      (reg G o) d none (fun _ h => nomatch h) (fun x => .ret x) _)
    isplitr [Hb Hpre Hlv Hg Ht]
    · iintro H; rw [wp_ret]; imodintro; iexact H
    isplitl [Hb]; · iexact Hb
    isplitl [Hpre]; · iexact Hpre
    isplitl [Hlv]; · iexact Hlv
    isplitl [Hg] <;> iassumption
  exact BI.Entails.trans key ((K (F := F)).wp_liftProg (D (F := F)) 𝒱 (SparseCore.T d) Set.univ none _ _)

/-- What the TensorCore's kernel takes: the gathered rows and the result's array. -/
theorem reg_pre (G : Dev nD → S7168x64.Idx → Elt F .f32) (o : Dev nD → S1x1.Idx → Elt F .f32) (d : Dev nD) :
    (reg G o).pre d = iprop(((SparseCore.T d).loc main_v2 ↦{fullShare} G d) ∗ ((SparseCore.T d).loc main_v3 ↦{fullShare} o d) ∗ idle (F := F) d) := rfl

/-- What it gives back: the rows, and the loss in the result's array. -/
theorem reg_post (G : Dev nD → S7168x64.Idx → Elt F .f32) (o : Dev nD → S1x1.Idx → Elt F .f32) (d : Dev nD) :
    (reg G o).post d = iprop(((SparseCore.T d).loc main_v2 ↦{fullShare} G d) ∗ ((SparseCore.T d).loc main_v3 ↦{fullShare} loss G d) ∗ idle (F := F) d) := rfl

/-! ## @main on the TensorCore -/

/-- A TensorCore buffer as the device names it. -/
abbrev rf (b : Ref sig .tc) : DevRef τ sig := Proc.devRef .tc b

/-- The TensorCore's arrays. -/
abbrev S9 : Finset (DevRef τ sig) := {rf main_arg0, rf main_arg1, rf main_arg2, rf main_arg3, rf main_v0, rf main_v1, rf main_v2, rf main_v3, rf main_v4}

/-- The nine buffers of the host, one by one. -/
theorem held_S9 (d : Dev nD) (W : Valuation τ sig (Elt F)) :
    (held (SparseCore.T d) S9 W : sProp 𝕄)
      = iprop(((SparseCore.T d).loc main_arg0 ↦{fullShare} W (rf main_arg0)) ∗ ((SparseCore.T d).loc main_arg1 ↦{fullShare} W (rf main_arg1))
          ∗ ((SparseCore.T d).loc main_arg2 ↦{fullShare} W (rf main_arg2)) ∗ ((SparseCore.T d).loc main_arg3 ↦{fullShare} W (rf main_arg3))
          ∗ ((SparseCore.T d).loc main_v0 ↦{fullShare} W (rf main_v0)) ∗ ((SparseCore.T d).loc main_v1 ↦{fullShare} W (rf main_v1))
          ∗ ((SparseCore.T d).loc main_v2 ↦{fullShare} W (rf main_v2)) ∗ ((SparseCore.T d).loc main_v3 ↦{fullShare} W (rf main_v3))
          ∗ (SparseCore.T d).loc main_v4 ↦{fullShare} W (rf main_v4)) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

/-- The launch's buffers are the nine at their first contents. -/
theorem unscoped_held (d : Dev nD) : (unscopedBufs d (fun b => m ((SparseCore.T d).loc b)) : sProp 𝕄) = held (SparseCore.T d) S9 (V0 m d) := by
  rw [held_S9]
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-- The flattening of the third index array. -/
abbrev opFlat : HloOp τ sig (Elt F) := StableHlo.reshape main_arg2 main_v0 (rfl : (.i32 : EltTy) = .i32) shapeCasts_S1024x5_S5120
/-- The row numbers, one after the other. -/
abbrev opCat : HloOp τ sig (Elt F) := StableHlo.nary ![main_arg0, main_arg1, main_v0] main_v1 (fun u => (concatenate S7168 0 [⟨S1024, (u 0 : (⟨S1024, .i32⟩ : BufTy).Contents (Elt F))⟩, ⟨S1024, (u 1 : (⟨S1024, .i32⟩ : BufTy).Contents (Elt F))⟩, ⟨S5120, (u 2 : (⟨S5120, .i32⟩ : BufTy).Contents (Elt F))⟩] concatenates_S1024_S1024_S5120_S7168_d0))
/-- The result as a scalar. -/
abbrev opOut : HloOp τ sig (Elt F) := StableHlo.reshape main_v3 main_v4 (rfl : (.f32 : EltTy) = .f32) shapeCasts_S1x1_S_

/-- The valuation once the row numbers are there. -/
def V2 (d : Dev nD) : Valuation τ sig (Elt F) := opCat.result (opFlat.result (V0 m d))

/-- The first two host operations leave every other buffer. -/
theorem V2_ne (d : Dev nD) {r : Ref sig .tc} (h0 : r ≠ main_v0) (h1 : r ≠ main_v1) : V2 m d (rf r) = m ((SparseCore.T d).loc r) := by
  unfold V2
  rw [StableHlo.nary_result_ne _ _ _ _ _ _ h1, StableHlo.reshape_result_ne _ _ _ _ _ _ _ h0]
  rfl

/-- After them the row numbers are joined. -/
theorem V2_ids (d : Dev nD) : V2 m d (rf main_v1) = idsOf m d := by
  unfold V2
  rw [StableHlo.nary_result']
  rfl

/-- What @main leaves in the result. -/
def outOf (d : Dev nD) : S_.Idx → Elt F .f32 := shapeCast S_ (loss (fun c => rowsOf m c) d) shapeCasts_S1x1_S_

/-- What @main keeps for the claim: the arguments as they were, the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (∃ q, (SparseCore.T d).loc main_arg3 ↦{q} m ((SparseCore.T d).loc main_arg3))
    ∗ (SparseCore.T d).loc main_v4 ↦{fullShare} outOf m d)

/-- What the two SparseCores start from. -/
theorem st0_eq (d : Dev nD) : (bigSep Finset.univ fun c : Fin ((K (F := F)).nCore 0) => (P m).st 0 d c) = iprop(stOf m d ⟨0, Nat.two_pos⟩ ∗ stOf m d ⟨1, Nat.one_lt_two⟩) := by
  show (bigSep (Finset.univ : Finset (Fin 2)) fun c => stOf m d c) = _
  rw [show (Finset.univ : Finset (Fin 2)) = {0, 1} by decide, SparseCore.bigSep_insert' (by decide), bigSep_singleton]
  rfl
/-- What the two SparseCores leave. -/
theorem dn0_eq (d : Dev nD) : (bigSep Finset.univ fun c : Fin ((K (F := F)).nCore 0) => (P m).dn 0 d c) = iprop(dnOf m d ⟨0, Nat.two_pos⟩ ∗ dnOf m d ⟨1, Nat.one_lt_two⟩) := by
  show (bigSep (Finset.univ : Finset (Fin 2)) fun c => dnOf m d c) = _
  rw [show (Finset.univ : Finset (Fin 2)) = {0, 1} by decide, SparseCore.bigSep_insert' (by decide), bigSep_singleton]
  rfl

/-- The result's two arrays. -/
abbrev S2 : Finset (DevRef τ sig) := {rf main_v3, rf main_v4}

/-- The two buffers of the last host operation. -/
theorem held_S2 (d : Dev nD) (W : Valuation τ sig (Elt F)) :
    (held (SparseCore.T d) S2 W : sProp 𝕄)
      = iprop(((SparseCore.T d).loc main_v3 ↦{fullShare} W (rf main_v3)) ∗ (SparseCore.T d).loc main_v4 ↦{fullShare} W (rf main_v4)) := by
  unfold held S2
  rw [SparseCore.bigSep_insert' (by decide), bigSep_singleton]

/-- The valuation once the loss is there. -/
def V3 (d : Dev nD) : Valuation τ sig (Elt F) := Function.update (V0 m d) (rf main_v3) (loss (fun c => rowsOf m c) d)

/-- The loss's buffer before the last operation. -/
theorem V3_v3 (d : Dev nD) : V3 m d (rf main_v3) = loss (fun c => rowsOf m c) d := Function.update_self _ _ _
/-- The result's buffer before the last operation. -/
theorem V3_v4 (d : Dev nD) : V3 m d (rf main_v4) = m ((SparseCore.T d).loc main_v4) := Function.update_of_ne (show rf main_v4 ≠ rf main_v3 by decide) _ _

/-- The result after the last operation. -/
theorem V3_out (d : Dev nD) : (opOut (F := F)).result (V3 m d) (rf main_v4) = outOf m d := by
  rw [StableHlo.reshape_result', V3_v3]
  rfl

/-- The TensorCore's state after the call: what it owes is nothing, and the rest. -/
theorem tcSt_idle (d : Dev nD) : ∃ R : sProp 𝕄, (K (F := F)).tcSt EH d 1 = iprop(idle (F := F) d ∗ R) := by
  unfold SparseCore.Cfg.tcSt idle cut
  rw [(K (F := F)).Otc_end d (le_refl 1)]
  exact ⟨_, rfl⟩

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghostOf (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_idle (F := F) d
  unfold SparseCore.Cfg.tcRes SparseCore.Cfg.tcEnd
  rw [unscoped_held]
  simp only [main, wp_bind, wp_pure]
  iintro ⟨#Hctx, Hst, ⟨Hb, Hheld, Hts, -⟩, HG⟩
  -- the row numbers
  iapply (wp_hlo_within 𝒱 (SparseCore.T d) none Set.univ (op := opFlat) (S := S9) (show ({rf main_arg2, rf main_v0} : Finset (DevRef τ sig)) ⊆ S9 by decide) (V := V0 m d)) $$ [Hb Hheld]
  · isplitl [Hb] <;> iassumption
  iintro ⟨Hb, Hheld⟩
  rw [wp_ret]; imodintro
  iapply (wp_hlo_within 𝒱 (SparseCore.T d) none Set.univ (op := opCat) (S := S9)
    (show insert (rf main_v1) (Finset.univ.image fun k : Fin 3 => rf ((![main_arg0, main_arg1, main_v0] : Fin 3 → Ref sig .tc) k)) ⊆ S9 by decide) (V := opFlat.result (V0 m d))) $$ [Hb Hheld]
  · isplitl [Hb] <;> iassumption
  iintro ⟨Hb, Hheld⟩
  rw [wp_ret]; imodintro
  rw [show opCat.result (opFlat.result (V0 m d)) = V2 m d from rfl]
  ihave Hheld := (Entails.of_eq (held_S9 (F := F) d (V2 m d))) $$ Hheld
  rw [V2_ids, V2_ne m d (r := main_arg0) (by decide) (by decide), V2_ne m d (r := main_arg1) (by decide) (by decide), V2_ne m d (r := main_arg2) (by decide) (by decide),
    V2_ne m d (r := main_arg3) (by decide) (by decide), V2_ne m d (r := main_v2) (by decide) (by decide), V2_ne m d (r := main_v3) (by decide) (by decide),
    V2_ne m d (r := main_v4) (by decide) (by decide)]
  icases Hheld with ⟨H0, H1, H2, H3, -, Hv1, Hv2, Hv3, Hv4⟩
  -- the SparseCores' call
  ihave H3 := (pointsTo_share (PosShare.mem_left_op_right fullShare)).1 $$ H3
  icases H3 with ⟨H3, H3r⟩
  ihave H3r := (pointsTo_share (PosShare.mem_left_op_right _)).1 $$ H3r
  icases H3r with ⟨H3a, H3b⟩
  ihave Hv1 := (pointsTo_share (PosShare.mem_left_op_right fullShare)).1 $$ Hv1
  icases Hv1 with ⟨Hv1a, Hv1b⟩
  ihave Hv2 := (v2_halves (F := F) d _).1 $$ Hv2
  icases Hv2 with ⟨Hv2a, Hv2b⟩
  iapply ((K (F := F)).wp_run (D (F := F)) 𝒱 (EH := EH) (P := P m) κ d 0) $$ [Hst H3 H3a H3b Hv1a Hv1b Hv2a Hv2b Hb H0 H1 H2 Hv3 Hv4 Hts HG]
  isplitr; · iexact Hctx
  isplitl [Hst]; · iexact Hst
  isplitl [H3a H3b Hv1a Hv1b Hv2a Hv2b]
  · rw [st0_eq]
    unfold stOf
    isplitl [H3a Hv1a Hv2a]
    · isplitl [H3a]; · iexists _; iexact H3a
      isplitl [Hv1a]; · iexists _; iexact Hv1a
      iexists _; iexact Hv2a
    · isplitl [H3b]; · iexists _; iexact H3b
      isplitl [Hv1b]; · iexists _; iexact Hv1b
      iexists _; iexact Hv2b
  iintro ⟨Hst, Hdn⟩
  ihave Hdn := (Entails.of_eq (dn0_eq m d)) $$ Hdn
  unfold dnOf
  ihave Hv2 := (v2_halves (F := F) d (rowsOf m d)).2 $$ Hdn
  ihave Hst := (Entails.of_eq ((show (K (F := F)).tcSt EH d ((0 : Fin 1).val + 1) = (K (F := F)).tcSt EH d 1 from rfl).trans hR)) $$ Hst
  icases Hst with ⟨Hidle, HR⟩
  ihave Hlv := (SparseCore.Cfg.ctx_levAts κ) $$ Hctx
  -- the TensorCore's kernel
  ihave H := (region_wp (F := F) (fun c => rowsOf m c) (fun c => m ((SparseCore.T c).loc main_v3)) d) $$ [Hb Hv2 Hv3 Hidle Hlv HG]
  · isplitl [Hb]; · iexact Hb
    isplitl [Hv2 Hv3 Hidle]
    · iapply (Entails.of_eq (reg_pre (F := F) _ _ d).symm)
      isplitl [Hv2]; · iexact Hv2
      isplitl [Hv3] <;> iassumption
    isplitl [Hlv] <;> iassumption
  iapply (wp_wand frame _ Set.univ) $$ [H]
  · iexact H
  iintro %_ ⟨Hb, Hpost⟩
  ihave Hpost := (Entails.of_eq (reg_post (F := F) _ _ d)) $$ Hpost
  icases Hpost with ⟨-, Hv3, Hidle⟩
  -- the result
  iapply (wp_hlo_within 𝒱 (SparseCore.T d) none Set.univ (op := opOut) (S := S2) (show ({rf main_v3, rf main_v4} : Finset (DevRef τ sig)) ⊆ S2 by decide) (V := V3 m d)) $$ [Hb Hv3 Hv4]
  · isplitl [Hb]; · iexact Hb
    rw [held_S2, V3_v3, V3_v4]
    isplitl [Hv3] <;> iassumption
  iintro ⟨Hb, Hheld⟩
  ihave Hheld := (Entails.of_eq (held_S2 (F := F) d _)) $$ Hheld
  rw [V3_out]
  icases Hheld with ⟨-, Hv4⟩
  rw [wp_ret]; imodintro; imodintro
  isplitl [Hidle HR]
  · iapply (Entails.of_eq hR.symm); isplitl [Hidle] <;> iassumption
  isplitr [Hb Hts]
  · unfold FIN
    isplitl [H0]; · iexact H0
    isplitl [H1]; · iexact H1
    isplitl [H2]; · iexact H2
    isplitl [H3]; · iexists _; iexact H3
    iexact Hv4
  isplitl [Hb] <;> iassumption

/-! ## What every run leaves -/

/-- On device `d` the four arguments are as the launch found them and the result is `outOf`. -/
def fq (d : Dev nD) (s' : Phys nD τ sig (Elt F)) : Prop :=
  s'.mem.mem ((SparseCore.T d).loc main_v4) = outOf m d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

/-- A buffer held whole at `f` is at `f` in the memory. -/
theorem agree (s' : Phys nD τ sig (Elt F)) (ℓ : Loc nD τ sig) (q : PosShare TreeShare) (f : Buf (Elt F) ℓ) :
    iprop(SI s' ∗ ℓ ↦{q} f) ⊢ iprop(⌜s'.mem.mem ℓ = f⌝ ∗ SI s' : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  · iexact HSI

/-- What the end of the run says of the memory. -/
theorem hfin (d : Dev nD) (s' : Phys nD τ sig (Elt F)) : iprop(FIN m d ∗ SI s') ⊢ (⌜fq m d s'⌝ : sProp 𝕄) := by
  unfold FIN
  iintro ⟨⟨H0, H1, H2, ⟨%q, H3⟩, H4⟩, HSI⟩
  ihave H := (agree s' _ _ _) $$ [HSI H0]
  · isplitl [HSI] <;> iassumption
  icases H with ⟨%h0, HSI⟩
  ihave H := (agree s' _ _ _) $$ [HSI H1]
  · isplitl [HSI] <;> iassumption
  icases H with ⟨%h1, HSI⟩
  ihave H := (agree s' _ _ _) $$ [HSI H2]
  · isplitl [HSI] <;> iassumption
  icases H with ⟨%h2, HSI⟩
  ihave H := (agree s' _ _ _) $$ [HSI H3]
  · isplitl [HSI] <;> iassumption
  icases H with ⟨%h3, HSI⟩
  ihave H := (agree s' _ _ _) $$ [HSI H4]
  · isplitl [HSI] <;> iassumption
  icases H with ⟨%h4, -⟩
  ipureintro
  exact ⟨h4, h0, h1, h2, h3⟩

/-- Every run: on every device the arguments unchanged and the result `outOf`; every semaphore at zero. -/
def QC : PUnit × MemSt nD τ sig (Elt F) → Prop := fun r =>
  (∀ c : Dev nD, r.2.mem ((SparseCore.T c).loc main_v4) = outOf m c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3))
  ∧ r.2.sem = fun _ => 0

/-- The whole program's run, from any memory whose row numbers are the table's. -/
theorem run_main [∀ e, Nonempty (Elt F e)] (hids : ∀ d j, (idsOf m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q _ => match q with | 0 => scalarObl m hids)
    (fun q hq => match q with | 0 => nomatch hq)
    (fun q hq => match q with | 0 => nomatch hq)
    m ρ main (fun d => ghostOf (F := F) d) (FIN m) (u₀ (F := F)) (sep_elim_left.trans (hu₀ m)) (hmain m ρ) (fq m) (hfin m) (QC m) (fun _ h hz => ⟨h, hz⟩)

end Cert.Proof

end
-- ==== Proof.Precondition.lean ====
/-
  What the precondition says: every index read from the three index arrays is below the number of table rows.
-/
module

public import proofs.«01_k».proof.Proof.Obligation
public import proofs.«01_k».proof.Pre_indices_in_table
public import Idealize.ShloMosaic.Lib.ReduceAll
public import Idealize.ShloMosaic.Lib.Affine
public import Idealize.ShloMosaic.Lib.Pointwise.SelectCore

@[expose] public section

noncomputable section

namespace Cert.Proof

open Cert.KernelIdeal Cert.KernelIdeal.Gen
open Idealize.ShloMosaic

variable {F : FTy → Type}

/-- The shape relations the precondition's operations take. -/
theorem preFacts : Cert.Pre_indices_in_table.Facts where
  bcast_S_S1024 := by decide
  reducesTo_S1024_S_d0 := by decide
  h_S_ := by decide
  bcast_S_S1024x5 := by decide
  reducesTo_S1024x5_S_d0_1 := by decide

/-- A word that is nonnegative and below a million, both read signed, is below a million read unsigned. -/
theorem word_lt {v : BitVec 32} (h : IntOp.andi (IntOp.cmpi .sge v 0#32) (IntOp.cmpi .slt v 1000000#32) = 1#1) : v.toNat < 1000000 := by
  obtain ⟨h0, h1⟩ := IntOp.andi_eq_one.1 h
  have h0' := (Scalar.nonneg_iff v).1 h0
  have h1' := IntOp.cmpi_slt.1 h1
  rw [BitVec.toInt_eq_toNat_of_lt h0', show (1000000#32 : BitVec 32).toInt = 1000000 from by decide] at h1'
  omega

variable [FloatOps F] [Cert.Pre_indices_in_table.Facts]

/-- Under the precondition every word of the three index arrays is below a million. -/
theorem pre_lt (a0 a1 : S1024.Idx → BitVec 32) (a2 : S1024x5.Idx → BitVec 32) (a3 : S1000000x64.Idx → F .f32)
    (h : Cert.Pre_indices_in_table.fn (F := F) a0 a1 a2 a3 = fun _ => 1#1) :
    (∀ i, (a0 i).toNat < 1000000) ∧ (∀ i, (a1 i).toNat < 1000000) ∧ ∀ i, (a2 i).toNat < 1000000 := by
  have e := congrFun h (fun a => a.elim0)
  obtain ⟨e01, e2⟩ := IntOp.andi_eq_one.1 e
  obtain ⟨e0, e1⟩ := IntOp.andi_eq_one.1 e01
  have : Subsingleton (Cert.Pre_indices_in_table.S_).Idx := ⟨fun a b => funext fun i => i.elim0⟩
  exact ⟨fun i => word_lt (Host.reduce_andi_all _ _ _ _ _ e0 i), fun i => word_lt (Host.reduce_andi_all _ _ _ _ _ e1 i),
    fun i => word_lt (Host.reduce_andi_all _ _ _ _ _ e2 i)⟩

/-- So every row number the kernel gathers is below a million. -/
theorem ids_lt (m : (ℓ : Loc nD τ sig) → Buf (Elt F) ℓ)
    (h : ∀ c : Dev nD, Cert.Pre_indices_in_table.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ d j, (idsOf m d j).toNat < 1000000 := by
  intro d j
  obtain ⟨h0, h1, h2⟩ := pre_lt _ _ _ _ (h d)
  unfold idsOf
  refine concatenate_forall (P := fun v : BitVec 32 => v.toNat < 1000000) S7168 0 _ _ ?_ j
  intro p hp i
  simp only [List.mem_cons, List.not_mem_nil, or_false] at hp
  rcases hp with rfl | rfl | rfl
  · exact h0 i
  · exact h1 i
  · exact h2 _

end Cert.Proof

end
-- ==== Proof.Frames.lean ====
/-
  The programs run, leave their arguments and end with every semaphore at zero; the named constant.
-/
module

public import proofs.«01_k».proof.Defs
public import proofs.«01_k».proof.Proof.Main
public import proofs.«01_k».proof.Proof.Precondition
public import proofs.«01_k».proof.Proof.Gen.Kernel
public import proofs.«01_k».proof.Proof.Gen.ReferenceIdeal.Run

@[expose] public section

noncomputable section

namespace Cert.Proof

open Idealize.ShloMosaic Idealize.SL.Sem

attribute [local instance] namedBits

/-- The kernels' bodies are the same in both printings, the named constant read as its literal. -/
theorem bodies_eq : Cert.Kernel.defs₀ (F := Bits) = Cert.KernelIdeal.defs₀ (F := Bits) := by
  funext c l x
  cases c <;> fin_cases l <;> rfl

/-- So are the two programs' tables of bodies. -/
theorem tables_eq : Cert.Kernel.defs (F := Bits) = Cert.KernelIdeal.defs (F := Bits) := by
  unfold Cert.Kernel.defs Cert.KernelIdeal.defs
  rw [show Cert.Kernel.defs₀ (F := Bits) = Cert.KernelIdeal.defs₀ (F := Bits) from bodies_eq]
  rfl

variable [Cert.Pre_indices_in_table.Facts]

/-- The idealized kernel's run, under the precondition. -/
theorem run_ideal (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (Cert.KernelIdeal.threads (F := Ideal)) ⟨m, fun _ => 0, g⟩ (QC m) :=
  run_main (F := Ideal) m g (ids_lt m h)

/-- The idealized kernel runs, its arguments unchanged, every semaphore at zero. -/
theorem frame_ideal : Cert.quiescent_KernelIdeal := fun m g h =>
  (θ_run Cert.KernelIdeal.defs _ _).mono (fun _ e => ⟨fun c => (e.1 c).2, e.2⟩) (run_ideal m g h)

/-- The kernel as printed runs, its arguments unchanged, every semaphore at zero: the same run at the machine's floats. -/
theorem frame_bits : Cert.quiescent_Kernel := by
  intro m g h
  have H := (θ_run Cert.KernelIdeal.defs (Cert.KernelIdeal.threads (F := Bits)) ⟨m, fun _ => 0, g⟩).mono
    (Q' := fun r => (∀ c : Dev Cert.KernelIdeal.nD,
      r.2.mem ((SparseCore.T c).loc Cert.KernelIdeal.main_arg0) = m ((SparseCore.T c).loc Cert.KernelIdeal.main_arg0)
      ∧ r.2.mem ((SparseCore.T c).loc Cert.KernelIdeal.main_arg1) = m ((SparseCore.T c).loc Cert.KernelIdeal.main_arg1)
      ∧ r.2.mem ((SparseCore.T c).loc Cert.KernelIdeal.main_arg2) = m ((SparseCore.T c).loc Cert.KernelIdeal.main_arg2)
      ∧ r.2.mem ((SparseCore.T c).loc Cert.KernelIdeal.main_arg3) = m ((SparseCore.T c).loc Cert.KernelIdeal.main_arg3))
      ∧ r.2.sem = fun _ => 0)
    (fun _ e => ⟨fun c => (e.1 c).2, e.2⟩) (run_main (F := Bits) m g (ids_lt m h))
  rw [show Cert.Kernel.defs (F := Bits) = Cert.KernelIdeal.defs (F := Bits) from tables_eq]
  exact H

/-- The reference runs, its arguments unchanged; it has no semaphore. -/
theorem frame_ref : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)

/-- The same where the indices are in the table. -/
theorem frame_ref_pre : Cert.quiescent_ReferenceIdeal_pre_indices_in_table := fun m g _ => frame_ref m g trivial

/-- The one difference of the two kernels: a literal standing for a seventh-digit rounding of `1 / 10485760`. -/
theorem preserves : Cert.preserves_Kernel_KernelIdeal := IdealRules.named_const.statement _ _ _ _ _ rfl

end Cert.Proof

end
-- ==== Proof.Softplus.lean ====
/-
  The arithmetic of the loss over the extended reals: softplus as the kernel and the reference spell it, the
  literals, and the two weightings of the two sums.
-/
module

public import Idealize.ShloMosaic.PureOps.Ideal.Laws

@[expose] public section

noncomputable section

namespace Cert.Proof

open Idealize.ShloMosaic

/-- Softplus, `max x 0 + log (1 + exp (-|x|))`. -/
def sp (x : EReal) : EReal := max x 0 + Ideal.log1p (Ideal.exp (0 - max x (-x)))

/-- The exponential is never negative. -/
theorem exp_nonneg (x : EReal) : 0 ≤ Ideal.exp x := by
  induction x using EReal.rec with
  | bot => simp
  | top => simp
  | coe x => rw [Ideal.exp_coe]; exact_mod_cast (Real.exp_pos x).le

/-- The logarithm of one plus a nonnegative number is not negative. -/
theorem log1p_nonneg {x : EReal} (h : 0 ≤ x) : 0 ≤ Ideal.log1p x := by
  induction x using EReal.rec with
  | bot => simp at h
  | top =>
    have e : (1 : EReal) + ⊤ = ⊤ := EReal.add_top_of_ne_bot (by decide)
    unfold Ideal.log1p
    rw [e, Ideal.log_top]
    exact le_top
  | coe x =>
    have hx : 0 ≤ x := by exact_mod_cast h
    have e : (1 : EReal) + (x : EReal) = ((1 + x : ℝ) : EReal) := by push_cast; rfl
    unfold Ideal.log1p
    rw [e, Ideal.log_coe, if_neg (by linarith)]
    exact_mod_cast Real.log_nonneg (by linarith)

/-- Softplus is never negative. -/
theorem sp_nonneg (x : EReal) : 0 ≤ sp x :=
  add_nonneg (le_max_right _ _) (log1p_nonneg (exp_nonneg _))

/-- Softplus as the logarithm of `exp 0 + exp y`: the larger of the two plus the correction. -/
theorem sp_logaddexp (y : EReal) :
    max 0 y + Ideal.log1p (Ideal.exp (-max (0 - y) (-(0 - y)))) = sp y := by
  unfold sp
  rw [max_comm 0 y, zero_sub, zero_sub, neg_neg, max_comm (-y) y]

/-- A product with minus one is the negation. -/
theorem mul_neg_one' (x : EReal) : x * ((-1 : ℝ) : EReal) = -x := by
  rw [EReal.coe_neg, mul_neg, EReal.coe_one, mul_one]

/-- The two means, halved, are the two weighted sums. -/
theorem weights {a b : EReal} (ha : 0 ≤ a) (hb : 0 ≤ b) :
    Ideal.div (Ideal.div a ((1048576 : ℝ) : EReal) + Ideal.div b ((5242880 : ℝ) : EReal)) ((2 : ℝ) : EReal)
      = a * ((2097152⁻¹ : ℝ) : EReal) + b * ((10485760⁻¹ : ℝ) : EReal) := by
  rw [Ideal.div_coe (by norm_num), Ideal.div_coe (by norm_num), Ideal.div_coe (by norm_num)]
  rw [EReal.right_distrib_of_nonneg (mul_nonneg ha (by exact_mod_cast (by norm_num : (0 : ℝ) ≤ 1 / 1048576)))
    (mul_nonneg hb (by exact_mod_cast (by norm_num : (0 : ℝ) ≤ 1 / 5242880)))]
  rw [mul_assoc, mul_assoc, ← EReal.coe_mul, ← EReal.coe_mul]
  norm_num

/-! ## The literals -/

/-- `0.0`. -/
theorem lit_zero : Ideal.ofBits .f32 0x00000000#32 = 0 := by
  simp [Ideal.ofBits, Ideal.ieee, -EReal.coe_mul]
/-- `1.0`. -/
theorem lit_one : Ideal.ofBits .f32 0x3F800000#32 = 1 := by
  simp [Ideal.ofBits, Ideal.ieee, -EReal.coe_mul]; norm_num
/-- `-1.0`. -/
theorem lit_neg_one : Ideal.ofBits .f32 0xBF800000#32 = ((-1 : ℝ) : EReal) := by
  simp [Ideal.ofBits, Ideal.ieee, -EReal.coe_mul]; norm_num
/-- `2.0`. -/
theorem lit_two : Ideal.ofBits .f32 0x40000000#32 = ((2 : ℝ) : EReal) := by
  simp [Ideal.ofBits, Ideal.ieee, -EReal.coe_mul]; norm_num
/-- `2 ^ -21`. -/
theorem lit_pos : Ideal.ofBits .f32 0x35000000#32 = ((2097152⁻¹ : ℝ) : EReal) := by
  simp [Ideal.ofBits, Ideal.ieee, -EReal.coe_mul]; norm_num
/-- `1048576.0`. -/
theorem lit_npos : Ideal.ofBits .f32 0x49800000#32 = ((1048576 : ℝ) : EReal) := by
  simp [Ideal.ofBits, Ideal.ieee, -EReal.coe_mul]; norm_num
/-- `5242880.0`. -/
theorem lit_nneg : Ideal.ofBits .f32 0x4AA00000#32 = ((5242880 : ℝ) : EReal) := by
  simp [Ideal.ofBits, Ideal.ieee, -EReal.coe_mul]; norm_num

end Cert.Proof

end
-- ==== Proof.Block.lean ====
/-
  What the TensorCore's kernel adds to the running sum at one grid point: the block's sum of softplus, times the
  weight of the block's kind.
-/
module

public import proofs.«01_k».proof.Proof.Softplus
public import proofs.«01_k».proof.Proof.Loss
public import Idealize.ShloMosaic.Lib.MatmulPlain
public import Idealize.ShloMosaic.Lib.Pointwise.Reduce

@[expose] public section

noncomputable section

namespace Cert.Proof

open Cert.KernelIdeal Cert.KernelIdeal.Gen
open Idealize.ShloMosaic hiding ix0 ix1 ix2 ix3 ix4 ix5
open Idealize.ShloMosaic.ValueIdx

/-- Row `a` of `x` times row `b` of `y`. -/
def dotRow {m n : ℕ} (x : (⟨2, ![m, 64]⟩ : Shape).Idx → EReal) (y : (⟨2, ![n, 64]⟩ : Shape).Idx → EReal) (a : Fin m) (b : Fin n) : EReal :=
  ∑ k : Fin 64, x (ix2 a k) * y (ix2 b k)

/-- The logit's sign: a positive pair's logit is negated. -/
def signed (p : Prop) [Decidable p] (x : EReal) : EReal := if p then -x else x

/-- The weight of a positive block's sum and of a negative block's. -/
def weight (p : Prop) [Decidable p] : EReal := if p then ((2097152⁻¹ : ℝ) : EReal) else ((10485760⁻¹ : ℝ) : EReal)

/-- The comparison of a grid coordinate with two. -/
theorem slt_two (n : Fin 12) : Scalar.cmpi .slt (BitVec.ofNat 32 n.val) 2#32 = if n.val < 2 then 1#1 else 0#1 := by
  fin_cases n <;> rfl

/-- The block's products: the dot product of the two rows. -/
theorem products_apply (v0 : FVec Ideal S1024x64 .f32) (v2 : FVec Ideal S512x64 .f32) (a : Fin 1024) (b : Fin 512) :
    matmul dot_S1024x64_S512x64_S1024x512_1_1_0_0_n_n none v0 v2 (constant (F := Ideal) S1024x512 .f32 0x00000000#32) (ix2 a b)
      = dotRow v0 v2 a b := by
  refine (Ideal.matmul_transposedRhs_apply (M := 1024) (K := 64) (N := 512) none v0 v2 (constant (F := Ideal) S1024x512 .f32 0x00000000#32) a b).trans ?_
  rw [show constant (F := Ideal) S1024x512 .f32 0x00000000#32 (ix2 a b) = 0 from lit_zero, zero_add]
  rfl

/-- The sum over a block, as the body takes it: over the two last axes of the block with a unit axis put first. -/
theorem total_apply (x : FVec Ideal S1024x512 .f32) :
    extractAt ![0, 0, 0] (shapeCast S1x1x1 (multiReduction .add [1, 2] S1 (shapeCast S1x1024x512 x shapeCasts_S1024x512_S1x1024x512) 0x00000000#32
        reduces_S1x1024x512_S1 (.inl rfl) rfl) shapeCasts_S1_S1x1x1) inpos_S1x1x1_p0_0_0
      = ∑ a : Fin 1024, ∑ b : Fin 512, x (ix2 a b) := by
  refine (Ideal.reduceAdd_r3_a12 (n0 := 1) (n1 := 1024) (n2 := 512) reduces_S1x1024x512_S1 (shapeCast S1x1024x512 x shapeCasts_S1024x512_S1x1024x512) _).trans ?_
  refine Finset.sum_congr rfl fun a _ => Finset.sum_congr rfl fun b _ => ?_
  refine (shapeCast_addUnit_apply (n := 2) ![1024, 512] x shapeCasts_S1024x512_S1x1024x512 _).trans (congrArg x ?_)
  funext d
  match d with
  | ⟨0, _⟩ => rfl
  | ⟨1, _⟩ => rfl

/-- The body's payload at a grid point. -/
theorem pay2_apply (i : grid1.Coords) (v0 : Vec Ideal S1024x64 .f32) (v2 : Vec Ideal S512x64 .f32) (v25 : Vec Ideal S1x1 .f32) (j : S1x1.Idx) :
    k1_pay2 i v0 v2 v25 j
      = v25 j + (∑ a : Fin 1024, ∑ b : Fin 512, sp (signed ((i 0).val < 2) (dotRow v0 v2 a b))) * weight ((i 0).val < 2) := by
  have hw : (Named.named (F := Ideal) κ "w_neg" (φ := .f32) 0x33CCCCCD#32 : EReal) = ((10485760⁻¹ : ℝ) : EReal) := rfl
  have hs : Scalar.cmpi .slt (BitVec.ofNat 32 (i 0).val) 2#32 = if (i 0).val < 2 then 1#1 else 0#1 := slt_two (i 0)
  have hv : ∀ a b, mulf (matmul (F := Ideal) (φ₁ := .f32) (φ₂ := .f32) dot_S1024x64_S512x64_S1024x512_1_1_0_0_n_n none
        (shapeCast S1024x64 v0 shapeCasts_S1024x64_S1024x64)
        (shapeCast S512x64 v2 shapeCasts_S512x64_S512x64) (constant (F := Ideal) S1024x512 .f32 0x00000000#32))
      (broadcast S1024x512 (Scalar.select (Scalar.cmpi .slt (BitVec.ofNat 32 (i 0).val) 2#32)
        (Scalar.ofBits (F := Ideal) .f32 0xBF800000#32) (Scalar.ofBits .f32 0x3F800000#32))) (ix2 a b)
      = signed ((i 0).val < 2) (dotRow v0 v2 a b) := by
    intro a b
    rw [shapeCast_self v0, shapeCast_self v2]
    refine (congrArg (· * _) (products_apply v0 v2 a b)).trans ?_
    refine (congrArg (dotRow v0 v2 a b * Scalar.select · _ _) hs).trans ?_
    unfold signed
    split
    · exact (congrArg (dotRow v0 v2 a b * ·) lit_neg_one).trans (mul_neg_one' _)
    · exact (congrArg (dotRow v0 v2 a b * ·) lit_one).trans (mul_one _)
  unfold k1_pay2
  rw [shapeCast_self v25]
  refine congrArg (v25 j + ·) ?_
  refine congrArg₂ (· * ·) ((total_apply _).trans ?_) ?_
  · refine Finset.sum_congr rfl fun a _ => Finset.sum_congr rfl fun b _ => ?_
    rw [← hv a b]
    unfold sp
    refine congrArg₂ (· + ·) (congrArg (max _ ·) lit_zero) (congrArg (fun z => Ideal.log1p (Ideal.exp (z - _))) lit_zero)
  · refine (congrArg (Scalar.select · _ _) hs).trans ?_
    unfold weight
    split
    · exact lit_pos
    · exact hw

end Cert.Proof

end
-- ==== Proof.KernelValue.lean ====
/-
  What the kernel's result holds, for any gathered rows: the weighted sums of softplus over the positive and over the
  negative rows.
-/
module

public import proofs.«01_k».proof.Proof.Block

@[expose] public section

noncomputable section

namespace Cert.Proof

open Cert.KernelIdeal Cert.KernelIdeal.Gen
open Idealize.ShloMosaic hiding ix0 ix1 ix2 ix3 ix4 ix5
open Idealize.ShloMosaic.ValueIdx

/-! ## Sums -/

/-- A weight taken out of a sum of nonnegative terms. -/
theorem sum_mul_of_nonneg {ι : Type} (s : Finset ι) (f : ι → EReal) (hf : ∀ x, 0 ≤ f x) (w : EReal) :
    ∑ x ∈ s, f x * w = (∑ x ∈ s, f x) * w := by
  classical
  induction s using Finset.induction_on with
  | empty => simp
  | insert a s ha ih => rw [Finset.sum_insert ha, Finset.sum_insert ha, ih, EReal.right_distrib_of_nonneg (hf a) (Finset.sum_nonneg fun x _ => hf x)]

/-- Blocks of 512 put end to end. -/
theorem sum_blocks (f : ℕ → EReal) (n : ℕ) :
    ∑ t ∈ Finset.range n, ∑ b ∈ Finset.range 512, f (512 * t + b) = ∑ q ∈ Finset.range (512 * n), f q := by
  induction n with
  | zero => simp
  | succ n ih => rw [Finset.sum_range_succ, ih, Nat.mul_succ, Finset.sum_range_add]

/-! ## The blocks -/

section

variable (G : Dev nD → S7168x64.Idx → EReal) (c : Dev nD)

/-- Row `q` of the gathered rows, counted round. -/
def rowNo (q : ℕ) : Fin 7168 := ⟨q % 7168, Nat.mod_lt _ (by decide)⟩

/-- The first window's block is the first 1024 rows. -/
theorem srcBlk_apply (t : Fin cfg1.N) (a : Fin 1024) (k : Fin 64) :
    srcBlk (F := Ideal) G c t (ix2 a k) = G c (ix2 (rowNo a.val) k) := by
  refine congrArg (G c) (funext fun d => Fin.ext ?_)
  match d with
  | ⟨0, _⟩ =>
    refine (ValueKit.view_emb_slice_whole_unit_val _ _ _ _ _ _).trans ?_
    show 0 * 1024 + a.val = a.val % 7168
    omega
  | ⟨1, _⟩ =>
    refine (ValueKit.view_emb_slice_whole_unit_val _ _ _ _ _ _).trans ?_
    show 0 * 64 + k.val = k.val
    omega

/-- The second window's block index. -/
theorem index1 : ∀ t : Fin grid1.N, cc1_transform_1 (grid1.coords t) 0 = t.val + 2 := by decide +kernel

/-- The second window's block at point `t` is the 512 rows from `1024 + 512 t`. -/
theorem rowBlk_apply (t : Fin cfg1.N) (b : Fin 512) (k : Fin 64) :
    rowBlk (F := Ideal) G c t (ix2 b k) = G c (ix2 (rowNo (1024 + (512 * t.val + b.val))) k) := by
  have ht : t.val < 12 := t.isLt
  refine congrArg (G c) (funext fun d => Fin.ext ?_)
  match d with
  | ⟨0, _⟩ =>
    refine (ValueKit.view_emb_slice_whole_unit_val _ _ _ _ _ _).trans ?_
    show cc1_transform_1 (grid1.coords t) 0 * 512 + b.val = (1024 + (512 * t.val + b.val)) % 7168
    rw [index1 t]
    omega
  | ⟨1, _⟩ =>
    refine (ValueKit.view_emb_slice_whole_unit_val _ _ _ _ _ _).trans ?_
    show 0 * 64 + k.val = k.val
    omega

/-- What row `q` contributes: softplus of its signed product with each source row, summed. -/
def col (s : Prop) [Decidable s] (q : ℕ) : EReal :=
  ∑ a : Fin 1024, sp (signed s (dotRow (G c) (G c) (rowNo a.val) (rowNo q)))

/-- A column adds nothing negative. -/
theorem col_nonneg (s : Prop) [Decidable s] (q : ℕ) : 0 ≤ col G c s q := Finset.sum_nonneg fun _ _ => sp_nonneg _

/-- What the block at point `t` contributes. -/
def blockSum (t : ℕ) : EReal := ∑ b ∈ Finset.range 512, col G c (t < 2) (1024 + (512 * t + b))

/-- One point of the grid: the block's sum, weighted, is added. -/
theorem step (t : Fin cfg1.N) (acc : Vec Ideal S1x1 .f32) (j : S1x1.Idx) :
    k1_pay2 (grid1.coords t) (srcBlk (F := Ideal) G c t) (rowBlk (F := Ideal) G c t) acc j
      = acc j + blockSum G c t.val * weight (t.val < 2) := by
  have hd : ∀ a b, dotRow (srcBlk (F := Ideal) G c t) (rowBlk (F := Ideal) G c t) a b
      = dotRow (G c) (G c) (rowNo a.val) (rowNo (1024 + (512 * t.val + b.val))) := fun a b => by
    unfold dotRow
    exact Finset.sum_congr rfl fun k _ => congrArg₂ (· * ·) (srcBlk_apply G c t a k) (rowBlk_apply G c t b k)
  rw [pay2_apply]
  simp only [hd, coords_val t]
  rw [Finset.sum_comm]
  unfold blockSum col
  rw [Finset.sum_range]

/-- The running sum after point `n`. -/
theorem chain_eq (j : S1x1.Idx) : ∀ (n : ℕ) (h : n < cfg1.N),
    chain (F := Ideal) G c n h j = ∑ t ∈ Finset.range (n + 1), blockSum G c t * weight (t < 2)
  | 0, h => by
    refine (step G c ⟨0, h⟩ _ j).trans ?_
    rw [Finset.sum_range_succ, Finset.sum_range_zero, show (k1_pay1 (F := Ideal)) j = 0 from lit_zero]
  | n + 1, h => by
    refine (step G c ⟨n + 1, h⟩ _ j).trans ?_
    rw [chain_eq j n, Finset.sum_range_succ _ (n + 1)]

/-- The loss: the positive rows' sum and the negative rows' sum, each with its weight. -/
theorem loss_eq (j : S1x1.Idx) :
    loss (F := Ideal) G c j
      = (∑ q ∈ Finset.range 1024, col G c True (1024 + q)) * ((2097152⁻¹ : ℝ) : EReal)
        + (∑ q ∈ Finset.range 5120, col G c False (2048 + q)) * ((10485760⁻¹ : ℝ) : EReal) := by
  have hp : ∀ t ∈ Finset.range 2, blockSum G c t * weight (t < 2)
      = (∑ b ∈ Finset.range 512, col G c True (1024 + (512 * t + b))) * ((2097152⁻¹ : ℝ) : EReal) := fun t ht => by
    have h2 : t < 2 := Finset.mem_range.mp ht
    simp only [blockSum, weight, h2]
    simp
  have hn : ∀ t ∈ Finset.range 10, blockSum G c (2 + t) * weight (2 + t < 2)
      = (∑ b ∈ Finset.range 512, col G c False (2048 + (512 * t + b))) * ((10485760⁻¹ : ℝ) : EReal) := fun t _ => by
    have h2 : ¬ 2 + t < 2 := by omega
    simp only [blockSum, weight, h2, if_false]
    exact congrArg (· * _) (Finset.sum_congr rfl fun b _ => congrArg (col G c False) (by omega))
  refine (chain_eq G c j 11 _).trans ?_
  rw [show 11 + 1 = 2 + 10 from rfl, Finset.sum_range_add, Finset.sum_congr rfl hp, Finset.sum_congr rfl hn,
    sum_mul_of_nonneg _ _ (fun t => Finset.sum_nonneg fun b _ => col_nonneg G c _ _),
    sum_mul_of_nonneg _ _ (fun t => Finset.sum_nonneg fun b _ => col_nonneg G c _ _),
    sum_blocks (fun q => col G c True (1024 + q)) 2, sum_blocks (fun q => col G c False (2048 + q)) 10]

end

end Cert.Proof

end
-- ==== Proof.Rows.lean ====
/-
  Which table row each gathered row is: the source rows, the positive rows, then the negative rows row by row.
-/
module

public import proofs.«01_k».proof.Proof.KernelValue
public import proofs.«01_k».proof.Proof.Obligation

@[expose] public section

noncomputable section

namespace Cert.Proof

open Cert.KernelIdeal Cert.KernelIdeal.Gen
open Idealize.ShloMosaic hiding ix0 ix1 ix2 ix3 ix4 ix5
open Idealize.ShloMosaic.ValueIdx

section

variable (m : (ℓ : Loc nD τ sig) → Buf (Elt Ideal) ℓ) (d : Dev nD)

/-- The source row numbers, the positive row numbers and the negative row numbers as the launch finds them. -/
abbrev srcIds : S1024.Idx → BitVec 32 := m ((SparseCore.T d).loc main_arg0)
abbrev posIds : S1024.Idx → BitVec 32 := m ((SparseCore.T d).loc main_arg1)
abbrev negIds : S1024x5.Idx → BitVec 32 := m ((SparseCore.T d).loc main_arg2)

/-- The first 1024 numbers are the source's. -/
theorem ids_src (a : Fin 1024) : idsOf m d (ix1 (rowNo a.val)) = srcIds m d (ix1 a) := by
  unfold idsOf
  refine concatenate_apply_piece (t := S7168) 0 _ _ _ 0 (by simp) S1024 (srcIds m d) rfl rfl 0 rfl (ix1 a) ?_ ?_
  · intro b hb
    exact absurd (Subsingleton.elim _ _) hb
  · show 0 + a.val = a.val % 7168
    omega

/-- The next 1024 are the positives'. -/
theorem ids_pos (q : Fin 1024) : idsOf m d (ix1 (rowNo (1024 + q.val))) = posIds m d (ix1 q) := by
  unfold idsOf
  refine concatenate_apply_piece (t := S7168) 0 _ _ _ 1 (by simp) S1024 (posIds m d) rfl rfl 1024 rfl (ix1 q) ?_ ?_
  · intro b hb
    exact absurd (Subsingleton.elim _ _) hb
  · show 1024 + q.val = (1024 + q.val) % 7168
    omega

/-- The last 5120 are the negatives', five to a source row. -/
theorem ids_neg (b : Fin 1024) (n : Fin 5) : idsOf m d (ix1 (rowNo (2048 + (5 * b.val + n.val)))) = negIds m d (ix2 b n) := by
  have hlt : 5 * b.val + n.val < 5120 := by omega
  unfold idsOf
  refine (concatenate_apply_piece (t := S7168) 0 _ _ _ 2 (by simp) S5120 (shapeCast S5120 (negIds m d) shapeCasts_S1024x5_S5120) rfl rfl 2048 rfl
    (ix1 ⟨5 * b.val + n.val, hlt⟩) ?_ ?_).trans ?_
  · intro b hb
    exact absurd (Subsingleton.elim _ _) hb
  · show 2048 + (5 * b.val + n.val) = (2048 + (5 * b.val + n.val)) % 7168
    omega
  · refine shapeCast_apply _ _ _ (ix2 b n) ?_
    rw [Shape.rowMajor_val_two, Shape.rowMajor_val_one]
    show b.val * 5 + n.val = 5 * b.val + n.val
    omega

/-- Row `p` of the gathered rows. -/
theorem rowsOf_apply (p : Fin 7168) (k : Fin 64) : rowsOf m d (ix2 p k) = tableOf m d (rowAt (idsOf m d (ix1 p)) k) := rfl

/-- The loss of two table rows, given by their numbers: softplus of their signed product. -/
def pair (tbl : S1000000x64.Idx → EReal) (s : Prop) [Decidable s] (u v : BitVec 32) : EReal :=
  sp (signed s (∑ k : Fin 64, tbl (rowAt u k) * tbl (rowAt v k)))

/-- What a gathered row contributes, by the number it was gathered at. -/
theorem col_rows (s : Prop) [Decidable s] (q : ℕ) (v : BitVec 32) (h : idsOf m d (ix1 (rowNo q)) = v) :
    col (fun c => rowsOf m c) d s q = ∑ a : Fin 1024, pair (tableOf m d) s (srcIds m d (ix1 a)) v := by
  unfold col pair dotRow
  refine Finset.sum_congr rfl fun a _ => congrArg (fun x => sp (signed s x)) (Finset.sum_congr rfl fun k _ => ?_)
  show rowsOf m d (ix2 (rowNo a.val) k) * rowsOf m d (ix2 (rowNo q) k) = _
  rw [rowsOf_apply, rowsOf_apply, ids_src, h]

/-- A sum over the negatives in order is the sum over the source rows and the five negatives of each. -/
theorem sum_five (f : ℕ → EReal) (n : ℕ) : ∑ q ∈ Finset.range (5 * n), f q = ∑ b ∈ Finset.range n, ∑ k ∈ Finset.range 5, f (5 * b + k) := by
  induction n with
  | zero => simp
  | succ n ih => rw [Finset.sum_range_succ, ← ih, Nat.mul_succ, Finset.sum_range_add]

/-- The positive pairs' sum. -/
def posSum (tbl : S1000000x64.Idx → EReal) (u v : S1024.Idx → BitVec 32) : EReal :=
  ∑ a : Fin 1024, ∑ b : Fin 1024, pair tbl True (u (ix1 a)) (v (ix1 b))

/-- The negative pairs' sum. -/
def negSum (tbl : S1000000x64.Idx → EReal) (u : S1024.Idx → BitVec 32) (v : S1024x5.Idx → BitVec 32) : EReal :=
  ∑ b : Fin 1024, ∑ a : Fin 1024, ∑ n : Fin 5, pair tbl False (u (ix1 a)) (v (ix2 b n))

/-- The sum over the positives is not negative. -/
theorem posSum_nonneg (tbl u v) : 0 ≤ posSum tbl u v := Finset.sum_nonneg fun _ _ => Finset.sum_nonneg fun _ _ => sp_nonneg _
/-- The sum over the negatives is not negative. -/
theorem negSum_nonneg (tbl u v) : 0 ≤ negSum tbl u v :=
  Finset.sum_nonneg fun _ _ => Finset.sum_nonneg fun _ _ => Finset.sum_nonneg fun _ _ => sp_nonneg _

/-- The kernel's loss in the launch's own arrays. -/
theorem loss_rows (j : S1x1.Idx) :
    loss (F := Ideal) (fun c => rowsOf m c) d j
      = posSum (tableOf m d) (srcIds m d) (posIds m d) * ((2097152⁻¹ : ℝ) : EReal)
        + negSum (tableOf m d) (srcIds m d) (negIds m d) * ((10485760⁻¹ : ℝ) : EReal) := by
  have hp : ∑ q ∈ Finset.range 1024, col (fun c => rowsOf m c) d True (1024 + q) = posSum (tableOf m d) (srcIds m d) (posIds m d) := by
    rw [Finset.sum_range, Finset.sum_congr rfl fun q _ => col_rows m d True (1024 + q.val) _ (ids_pos m d q)]
    exact Finset.sum_comm
  have hn : ∑ q ∈ Finset.range 5120, col (fun c => rowsOf m c) d False (2048 + q) = negSum (tableOf m d) (srcIds m d) (negIds m d) := by
    rw [show (5120 : ℕ) = 5 * 1024 by norm_num, sum_five (fun q => col (fun c => rowsOf m c) d False (2048 + q)) 1024, Finset.sum_range]
    unfold negSum
    refine Finset.sum_congr rfl fun b _ => ?_
    have hc : ∀ n : Fin 5, col (fun c => rowsOf m c) d False (2048 + (5 * b.val + n.val))
        = ∑ a : Fin 1024, pair (tableOf m d) False (srcIds m d (ix1 a)) (negIds m d (ix2 b n)) :=
      fun n => col_rows m d False (2048 + (5 * b.val + n.val)) (negIds m d (ix2 b n)) (ids_neg m d b n)
    rw [Finset.sum_range]
    simp only [hc]
    exact Finset.sum_comm
  rw [loss_eq, hp, hn]

end

end Cert.Proof

end
-- ==== Proof.Take.lean ====
/-
  The reference's lookups: at row numbers within the table, `take` reads the table's rows.
-/
module

public import proofs.«01_k».proof.Proof.Rows
public import proofs.«01_k».proof.Proof.Gen.ReferenceIdeal
public import Idealize.ShloMosaic.Lib.ReduceAll
public import Idealize.ShloMosaic.Lib.DynamicIndex

@[expose] public section

noncomputable section

namespace Cert.Proof.Ref

open Cert.ReferenceIdeal Cert.ReferenceIdeal.Gen
open Idealize.ShloMosaic hiding ix0 ix1 ix2 ix3 ix4 ix5
open Idealize.ShloMosaic.ValueIdx

/-! ## One number -/

/-- A number within the table is not negative, -/
theorem toInt_of_lt {v : BitVec 32} (h : v.toNat < 1000000) : v.toInt = v.toNat := BitVec.toInt_eq_toNat_of_lt (by omega)

/-- is at least zero by the machine's comparison, -/
theorem sge_zero {v : BitVec 32} (h : v.toNat < 1000000) : IntOp.cmpi .sge v 0#32 = 1#1 := by
  show BitVec.ofBool ((0#32).sle v) = 1#1
  have : (0#32).sle v = true := by
    simp only [BitVec.sle, BitVec.toInt_zero, decide_eq_true_eq]
    rw [toInt_of_lt h]; omega
  rw [this]; rfl

/-- and at most the last row's number. -/
theorem sle_last {v : BitVec 32} (h : v.toNat < 1000000) : IntOp.cmpi .sle v 999999#32 = 1#1 := by
  show BitVec.ofBool (v.sle 999999#32) = 1#1
  have : v.sle 999999#32 = true := by
    simp only [BitVec.sle, decide_eq_true_eq]
    rw [toInt_of_lt h, show (999999#32).toInt = 999999 by decide]; omega
  rw [this]; rfl

/-! ## The lookup of a vector of numbers -/

/-- The numbers as the lookup's start indices: a negative number is counted from the end. -/
def col1 (ids : IVec S1024 32) : IVec S1024x1 32 :=
  broadcastInDim S1024x1 ![0] bcast_S1024_S1024x1_0 (select (cmpi .slt ids (broadcastInDim S1024 ![] bcast_S_S1024 (constantI S_ 32 0#32)))
    (addi ids (broadcastInDim S1024 ![] bcast_S_S1024 (constantI S_ 32 1000000#32))) ids)

/-- Which numbers lie in the table. -/
def mask1 (ids : IVec S1024 32) : IVec S1024 1 :=
  Host.reduce IntOp.andi (andi (cmpi .sge (col1 ids) (broadcastInDim S1024x1 ![] bcast_S_S1024x1 (constantI S_ 32 0#32)))
    (cmpi .sle (col1 ids) (broadcastInDim S1024x1 ![0, 1] bcast_S1x1_S1024x1_0_1 (broadcastInDim S1x1 ![1] bcast_S1_S1x1_1 (constantI S1 32 999999#32)))))
    (constantI S_ 1 1#1) reducesTo_S1024x1_S1024_d1 h_S_

/-- The lookup of 1024 rows. -/
def take1 (tbl : FVec Ideal S1000000x64 .f32) (ids : IVec S1024 32) : FVec Ideal S1024x64 .f32 :=
  select (broadcastInDim S1024x64 ![0] bcast_S1024_S1024x64_0 (mask1 ids))
    (Host.gather gather_S1000000x64_S1024x1_S1024x64_1_0_n_n_0_1_164 tbl (col1 ids))
    (broadcastInDim S1024x64 ![] bcast_S_S1024x64 (constant S_ .f32 0x7FC00000#32))

/-- An axis of the table is its rows' or its columns'. -/
theorem axis_cases (d : Fin S1000000x64.rank) : d = 0 ∨ d = 1 := by
  match d with
  | ⟨0, _⟩ => exact Or.inl rfl
  | ⟨1, _⟩ => exact Or.inr rfl

/-- A gather of whole table rows, whatever the shape of its start indices: the result's element `j` lies in column `k`
    of the row that the start index at `i` names, if `i` is where the gather finds the start index of `j`. -/
theorem gather_names {si so : Shape} (D : GatherDims S1000000x64 si so) (hc : D.collapsedSliceDims = [0]) (hb : D.operandBatchingDims = [])
    (hm : D.startIndexMap = [0]) (hz : D.sliceSizes 0 = 1) (tbl : FVec Ideal S1000000x64 .f32) (idx : IVec si 32) (j : so.Idx) (i : si.Idx)
    (k : Fin 64) (hi : ∀ x, D.siIdx j x = i) (hk : D.offCoord j 1 = k.val) (hlt : (idx i).toNat < 1000000) :
    Host.gather D tbl idx j = tbl (rowAt (idx i) k) := by
  have none : ∀ d, d ∉ D.operandBatchingDims := fun d => hb ▸ List.not_mem_nil
  have row : (D.operandIdx j idx 0).val = (idx i).toNat % 1000000 := by
    have h0 : (0 : Fin S1000000x64.rank) ∈ D.startIndexMap := hm ▸ List.mem_singleton.mpr rfl
    have hs : D.start j idx 0 = min (idx i).toInt.toNat (1000000 - D.sliceSizes 0) := by
      rw [GatherDims.start, dif_pos h0, hi]
      rfl
    have ho : D.offCoord j 0 = 0 := D.offCoord_eq_zero _ _ fun q => ((D.mem_sKept 0).mp q).1 (hc ▸ List.mem_singleton.mpr rfl)
    show D.start j idx 0 + D.batchCoord j 0 + D.offCoord j 0 = _
    rw [hs, ho, D.batchCoord_eq_zero _ _ (none 0), hz, toInt_of_lt hlt, Int.toNat_natCast]
    omega
  have column : (D.operandIdx j idx 1).val = k.val := by
    have h1 : (1 : Fin S1000000x64.rank) ∉ D.startIndexMap := by rw [hm]; decide
    show D.start j idx 1 + D.batchCoord j 1 + D.offCoord j 1 = _
    rw [GatherDims.start, dif_neg h1, D.batchCoord_eq_zero _ _ (none 1), hk, Nat.add_zero]
    exact Nat.zero_add _
  unfold Host.gather
  refine congrArg tbl (funext fun d => Fin.ext ?_)
  rcases axis_cases d with rfl | rfl
  · exact row
  · exact column

section
variable (ids : IVec S1024 32) (h : ∀ i, (ids i).toNat < 1000000)
include h

/-- A start index within the table is the number itself. -/
theorem col1_apply (a : Fin 1024) : col1 ids (ix2 a (0 : Fin 1)) = ids (ix1 a) := by
  unfold col1
  refine (broadcastInDim_apply _ _ _ _ (ix1 a) (fun d => ?_)).trans ?_
  · obtain rfl : d = 0 := Subsingleton.elim _ _
    rfl
  · refine select_slt_zero_of_nonneg ids _ _ (ix1 a) ?_
    rw [toInt_of_lt (h _)]; omega

/-- Numbers within the table all pass the mask. -/
theorem mask1_apply (i : S1024.Idx) : mask1 ids i = 1#1 := by
  unfold mask1
  refine Host.reduce_andi_one _ _ _ _ _ rfl fun j => ?_
  obtain ⟨a, rfl⟩ : ∃ a : Fin 1024, j = ix2 a (0 : Fin 1) := ⟨j 0, by
    funext d
    match d with
    | ⟨0, _⟩ => rfl
    | ⟨1, _⟩ => exact Subsingleton.elim (α := Fin 1) _ _⟩
  show IntOp.andi (IntOp.cmpi .sge (col1 ids (ix2 a (0 : Fin 1))) 0#32) (IntOp.cmpi .sle (col1 ids (ix2 a (0 : Fin 1))) 999999#32) = 1#1
  rw [col1_apply ids h, sge_zero (h _), sle_last (h _)]
  rfl

/-- The lookup at numbers within the table. -/
theorem take1_apply (tbl : FVec Ideal S1000000x64 .f32) (a : Fin 1024) (k : Fin 64) :
    take1 tbl ids (ix2 a k) = tbl (rowAt (ids (ix1 a)) k) := by
  have hb : broadcastInDim S1024x64 ![0] bcast_S1024_S1024x64_0 (mask1 ids) (ix2 a k) = 1#1 := by
    refine (broadcastInDim_apply _ _ _ _ (ix1 a) (fun d => ?_)).trans (mask1_apply ids h _)
    obtain rfl : d = 0 := Subsingleton.elim _ _
    rfl
  unfold take1
  rw [select_apply, hb, select_one, ← col1_apply ids h a]
  refine gather_names _ rfl rfl rfl rfl tbl (col1 ids) (ix2 a k) (ix2 a (0 : Fin 1)) k (fun x => funext fun b => Fin.ext ?_) rfl (by rw [col1_apply ids h a]; exact h _)
  match b with
  | ⟨0, _⟩ => rfl
  | ⟨1, _⟩ => exact Nat.lt_one_iff.mp x.isLt

end

/-! ## The lookup of five numbers for each source row -/

/-- The numbers as the lookup's start indices. -/
def col5 (ids : IVec S1024x5 32) : IVec S1024x5x1 32 :=
  broadcastInDim S1024x5x1 ![0, 1] bcast_S1024x5_S1024x5x1_0_1 (select (cmpi .slt ids (broadcastInDim S1024x5 ![] bcast_S_S1024x5 (constantI S_ 32 0#32)))
    (addi ids (broadcastInDim S1024x5 ![] bcast_S_S1024x5 (constantI S_ 32 1000000#32))) ids)

/-- Which numbers lie in the table. -/
def mask5 (ids : IVec S1024x5 32) : IVec S1024x5 1 :=
  Host.reduce IntOp.andi (andi (cmpi .sge (col5 ids) (broadcastInDim S1024x5x1 ![] bcast_S_S1024x5x1 (constantI S_ 32 0#32)))
    (cmpi .sle (col5 ids) (broadcastInDim S1024x5x1 ![0, 1, 2] bcast_S1x1x1_S1024x5x1_0_1_2 (broadcastInDim S1x1x1 ![2] bcast_S1_S1x1x1_2 (constantI S1 32 999999#32)))))
    (constantI S_ 1 1#1) reducesTo_S1024x5x1_S1024x5_d2 h_S_

/-- The lookup of five rows for each source row. -/
def take5 (tbl : FVec Ideal S1000000x64 .f32) (ids : IVec S1024x5 32) : FVec Ideal S1024x5x64 .f32 :=
  select (broadcastInDim S1024x5x64 ![0, 1] bcast_S1024x5_S1024x5x64_0_1 (mask5 ids))
    (Host.gather gather_S1000000x64_S1024x5x1_S1024x5x64_2_0_n_n_0_2_164 tbl (col5 ids))
    (broadcastInDim S1024x5x64 ![] bcast_S_S1024x5x64 (constant S_ .f32 0x7FC00000#32))

section
variable (ids : IVec S1024x5 32) (h : ∀ i, (ids i).toNat < 1000000)
include h

/-- A start index within the table is the number itself. -/
theorem col5_apply (a : Fin 1024) (n : Fin 5) : col5 ids (ix3 a n (0 : Fin 1)) = ids (ix2 a n) := by
  unfold col5
  refine (broadcastInDim_apply _ _ _ _ (ix2 a n) (fun d => ?_)).trans ?_
  · match d with
    | ⟨0, _⟩ => rfl
    | ⟨1, _⟩ => rfl
  · refine select_slt_zero_of_nonneg ids _ _ (ix2 a n) ?_
    rw [toInt_of_lt (h _)]; omega

/-- Numbers within the table all pass the mask. -/
theorem mask5_apply (i : S1024x5.Idx) : mask5 ids i = 1#1 := by
  unfold mask5
  refine Host.reduce_andi_one _ _ _ _ _ rfl fun j => ?_
  obtain ⟨a, n, rfl⟩ : ∃ (a : Fin 1024) (n : Fin 5), j = ix3 a n (0 : Fin 1) := ⟨j 0, j 1, by
    funext d
    match d with
    | ⟨0, _⟩ => rfl
    | ⟨1, _⟩ => rfl
    | ⟨2, _⟩ => exact Subsingleton.elim (α := Fin 1) _ _⟩
  show IntOp.andi (IntOp.cmpi .sge (col5 ids (ix3 a n (0 : Fin 1))) 0#32) (IntOp.cmpi .sle (col5 ids (ix3 a n (0 : Fin 1))) 999999#32) = 1#1
  rw [col5_apply ids h, sge_zero (h _), sle_last (h _)]
  rfl

/-- The lookup at numbers within the table. -/
theorem take5_apply (tbl : FVec Ideal S1000000x64 .f32) (a : Fin 1024) (n : Fin 5) (k : Fin 64) :
    take5 tbl ids (ix3 a n k) = tbl (rowAt (ids (ix2 a n)) k) := by
  have hb : broadcastInDim S1024x5x64 ![0, 1] bcast_S1024x5_S1024x5x64_0_1 (mask5 ids) (ix3 a n k) = 1#1 := by
    refine (broadcastInDim_apply _ _ _ _ (ix2 a n) (fun d => ?_)).trans (mask5_apply ids h _)
    match d with
    | ⟨0, _⟩ => rfl
    | ⟨1, _⟩ => rfl
  unfold take5
  rw [select_apply, hb, select_one, ← col5_apply ids h a n]
  refine gather_names _ rfl rfl rfl rfl tbl (col5 ids) (ix3 a n k) (ix3 a n (0 : Fin 1)) k (fun x => funext fun b => Fin.ext ?_) rfl (by rw [col5_apply ids h a n]; exact h _)
  match b with
  | ⟨0, _⟩ => rfl
  | ⟨1, _⟩ => rfl
  | ⟨2, _⟩ => exact Nat.lt_one_iff.mp x.isLt

end

end Cert.Proof.Ref

end
-- ==== Proof.ReferenceValue.lean ====
/-
  What the reference's result holds at row numbers within the table: the two means of softplus, halved.
-/
module

public import proofs.«01_k».proof.Proof.Take
public import proofs.«01_k».proof.Proof.Gen.ReferenceIdeal.Run
public import Idealize.ShloMosaic.Lib.IdealHost

@[expose] public section

noncomputable section

namespace Cert.Proof.Ref

open Cert.ReferenceIdeal Cert.ReferenceIdeal.Gen
open Idealize.ShloMosaic hiding ix0 ix1 ix2 ix3 ix4 ix5
open Idealize.ShloMosaic.ValueIdx
open Idealize.ShloMosaic.TcCoe

/-- The logarithm of `exp 0 + exp x` at every index, as the reference takes it: `z` holds the zeros. -/
def logaddexp {s : Shape} (z x : FVec Ideal s .f32) : FVec Ideal s .f32 :=
  select (cmpf .une (subf z x) (subf z x)) (addf z x) (addf (maximumf z x) (Host.log1p (Host.exp (Host.negf (Host.absf (subf z x))))))

/-- At an index it is softplus. -/
theorem logaddexp_apply {s : Shape} (z x : FVec Ideal s .f32) (j : s.Idx) (hz : z j = (0 : EReal)) : logaddexp z x j = sp (x j) := by
  unfold logaddexp
  have hc : cmpf (F := Ideal) .une (subf z x) (subf z x) j = 0#1 := by
    show BitVec.ofBool (decide (subf z x j ≠ subf z x j)) = 0#1
    simp
  rw [select_apply, hc, select_zero]
  show max (z j) (x j) + Ideal.log1p (Ideal.exp (-max (z j - x j) (-(z j - x j)))) = _
  rw [hz]
  exact sp_logaddexp _

/-- Zeros over a block. -/
theorem zeros_apply {s : Shape} (h : S_.BroadcastsInDim s ![]) (j : s.Idx) :
    broadcastInDim s ![] h (constant (F := Ideal) S_ .f32 0x00000000#32) j = (0 : EReal) :=
  (broadcastInDim_scalar_apply h _ j).trans lit_zero

section
variable (tbl : FVec Ideal S1000000x64 .f32) (u v : IVec S1024 32) (w : IVec S1024x5 32)

/-- The positive logits, negated. -/
def posLogits : FVec Ideal S1024x1024 .f32 :=
  Host.negf (Host.dotGeneral dot_S1024x64_S64x1024_S1024x1024_1_0_0_1_n_n none (take1 tbl u) (transpose S64x1024 [1, 0] (take1 tbl v) transposes_S1024x64_S64x1024_1_0))

/-- The negative logits. -/
def negLogits : FVec Ideal S1024x1024x5 .f32 :=
  transpose S1024x1024x5 [1, 0, 2] (Host.dotGeneral dot_S1024x64_S1024x64x5_S1024x1024x5_1_1_0_02_n_n none (take1 tbl u)
    (transpose S1024x64x5 [0, 2, 1] (take5 tbl w) transposes_S1024x5x64_S1024x64x5_0_2_1)) transposes_S1024x1024x5_S1024x1024x5_1_0_2

/-- The mean over the positive pairs. -/
def posMean : FVec Ideal S_ .f32 :=
  Host.divf (Host.reduceAdd (logaddexp (broadcastInDim S1024x1024 ![] bcast_S_S1024x1024 (constant S_ .f32 0x00000000#32)) (posLogits tbl u v))
    (constant S_ .f32 0x00000000#32) reducesTo_S1024x1024_S_d0_1 h_S_) (constant S_ .f32 0x49800000#32)

/-- The mean over the negative pairs. -/
def negMean : FVec Ideal S_ .f32 :=
  Host.divf (Host.reduceAdd (logaddexp (broadcastInDim S1024x1024x5 ![] bcast_S_S1024x1024x5 (constant S_ .f32 0x00000000#32)) (negLogits tbl u w))
    (constant S_ .f32 0x00000000#32) reducesTo_S1024x1024x5_S_d0_1_2 h_S_) (constant S_ .f32 0x4AA00000#32)

/-- The reference's loss. -/
def refLoss : FVec Ideal S_ .f32 := Host.divf (addf (posMean tbl u v) (negMean tbl u w)) (constant S_ .f32 0x40000000#32)

end

set_option maxRecDepth 16384 in
/-- The reference's run leaves that loss. -/
theorem result_eq (m : (ℓ : Loc nD τ sig) → Buf (Elt Ideal) ℓ) (c : Dev nD) :
    Value.res_main_v40 (F := Ideal) m c
      = refLoss (m ((c.tc : Thread nD τ).loc main_arg3)) (m ((c.tc : Thread nD τ).loc main_arg0)) (m ((c.tc : Thread nD τ).loc main_arg1)) (m ((c.tc : Thread nD τ).loc main_arg2)) := rfl

section
variable (tbl : FVec Ideal S1000000x64 .f32) (u v : IVec S1024 32) (w : IVec S1024x5 32)
variable (hu : ∀ i, (u i).toNat < 1000000) (hv : ∀ i, (v i).toNat < 1000000) (hw : ∀ i, (w i).toNat < 1000000)

include hu hv in
/-- A positive logit. -/
theorem posLogits_apply (a b : Fin 1024) :
    posLogits tbl u v (ix2 a b) = signed True (∑ k : Fin 64, tbl (rowAt (u (ix1 a)) k) * tbl (rowAt (v (ix1 b)) k)) := by
  have hd : Host.dotGeneral (F := Ideal) (φ₁ := .f32) (φ₂ := .f32) dot_S1024x64_S64x1024_S1024x1024_1_0_0_1_n_n none (take1 tbl u)
      (transpose S64x1024 [1, 0] (take1 tbl v) transposes_S1024x64_S64x1024_1_0) (ix2 a b)
      = ∑ k : Fin 64, tbl (rowAt (u (ix1 a)) k) * tbl (rowAt (v (ix1 b)) k) := by
    refine (Ideal.matmul_plain_apply (M := 1024) (K := 64) (N := 1024) (φ₁ := .f32) (φ₂ := .f32) none (take1 tbl u)
      (transpose S64x1024 [1, 0] (take1 tbl v) transposes_S1024x64_S64x1024_1_0) (fun _ => 0) a b).trans ?_
    rw [zero_add]
    refine Finset.sum_congr rfl fun k _ => congrArg₂ (· * ·) (take1_apply u hu tbl a k) ?_
    refine (transpose_apply _ _ _ _ (ix2 b k) fun d => ?_).trans (take1_apply v hv tbl b k)
    match d with
    | ⟨0, _⟩ => rfl
    | ⟨1, _⟩ => rfl
  exact congrArg (fun x : EReal => -x) hd

include hu hw in
/-- A negative logit. -/
theorem negLogits_apply (b a : Fin 1024) (n : Fin 5) :
    negLogits tbl u w (ix3 b a n) = signed False (∑ k : Fin 64, tbl (rowAt (u (ix1 a)) k) * tbl (rowAt (w (ix2 b n)) k)) := by
  have ht : ∀ k : Fin 64, transpose S1024x64x5 [0, 2, 1] (take5 tbl w) transposes_S1024x5x64_S1024x64x5_0_2_1 (ix3 b k n) = tbl (rowAt (w (ix2 b n)) k) := fun k => by
    refine (transpose_apply _ _ _ _ (ix3 b n k) fun d => ?_).trans (take5_apply w hw tbl b n k)
    match d with
    | ⟨0, _⟩ => rfl
    | ⟨1, _⟩ => rfl
    | ⟨2, _⟩ => rfl
  have hd : Host.dotGeneral (F := Ideal) (φ₁ := .f32) (φ₂ := .f32) dot_S1024x64_S1024x64x5_S1024x1024x5_1_1_0_02_n_n none (take1 tbl u)
      (transpose S1024x64x5 [0, 2, 1] (take5 tbl w) transposes_S1024x5x64_S1024x64x5_0_2_1) (ix3 a b n)
      = ∑ k : Fin 64, tbl (rowAt (u (ix1 a)) k) * tbl (rowAt (w (ix2 b n)) k) := by
    let D := dot_S1024x64_S1024x64x5_S1024x1024x5_1_1_0_02_n_n
    have hr : D.contr.rank = 1 := rfl
    have hs : D.contr.size ⟨0, by rw [hr]; exact Nat.one_pos⟩ = 64 := rfl
    refine (Ideal.matmul_apply D none (φ₁ := .f32) (φ₂ := .f32) (take1 tbl u)
      (transpose S1024x64x5 [0, 2, 1] (take5 tbl w) transposes_S1024x5x64_S1024x64x5_0_2_1) (fun _ => 0) (ix3 a b n)).trans ?_
    rw [← Equiv.sum_comp (contrEquiv1 D 64 hr hs).symm]
    rw [zero_add]
    refine Finset.sum_congr rfl fun k _ => ?_
    have hk := contrEquiv1_symm_val D 64 hr hs k
    have el : D.lhsIdx (ix3 a b n) ((contrEquiv1 D 64 hr hs).symm k) = ix2 a k := by
      funext d; refine Fin.ext ?_
      match d with
      | ⟨0, _⟩ => rfl
      | ⟨1, _⟩ => exact hk
    have er : D.rhsIdx (ix3 a b n) ((contrEquiv1 D 64 hr hs).symm k) = ix3 b k n := by
      funext d; refine Fin.ext ?_
      match d with
      | ⟨0, _⟩ => rfl
      | ⟨1, _⟩ => exact hk
      | ⟨2, _⟩ => rfl
    rw [el, er, ht k]
    exact congrArg (· * _) (take1_apply u hu tbl a k)
  unfold negLogits
  refine (transpose_apply _ _ _ _ (ix3 a b n) fun d => ?_).trans (hd.trans (if_neg not_false).symm)
  match d with
  | ⟨0, _⟩ => rfl
  | ⟨1, _⟩ => rfl
  | ⟨2, _⟩ => rfl

include hu hv in
/-- The mean over the positive pairs is their sum over their number. -/
theorem posMean_apply (j : S_.Idx) : posMean tbl u v j = Ideal.div (posSum tbl u v) ((1048576 : ℝ) : EReal) := by
  refine congrArg₂ Ideal.div ?_ lit_npos
  refine (Ideal.hostReduceAdd_r2_a01 (n0 := 1024) (n1 := 1024) reducesTo_S1024x1024_S_d0_1 _ _ j).trans ?_
  refine (congrArg (· + _) lit_zero).trans ((zero_add _).trans ?_)
  refine Finset.sum_congr rfl fun a _ => Finset.sum_congr rfl fun b _ => ?_
  refine (logaddexp_apply _ _ (ix2 a b) (zeros_apply _ _)).trans ?_
  rw [posLogits_apply tbl u v hu hv]
  rfl

include hu hw in
/-- The mean over the negative pairs is their sum over their number. -/
theorem negMean_apply (j : S_.Idx) : negMean tbl u w j = Ideal.div (negSum tbl u w) ((5242880 : ℝ) : EReal) := by
  refine congrArg₂ Ideal.div ?_ lit_nneg
  refine (Ideal.hostReduceAdd_r3_a012 (n0 := 1024) (n1 := 1024) (n2 := 5) reducesTo_S1024x1024x5_S_d0_1_2 _ _ j).trans ?_
  refine (congrArg (· + _) lit_zero).trans ((zero_add _).trans ?_)
  refine Finset.sum_congr rfl fun b _ => Finset.sum_congr rfl fun a _ => Finset.sum_congr rfl fun n _ => ?_
  refine (logaddexp_apply _ _ (ix3 b a n) (zeros_apply _ _)).trans ?_
  rw [negLogits_apply tbl u w hu hw]
  rfl

include hu hv hw in
/-- The reference's loss as the two weighted sums. -/
theorem refLoss_apply (j : S_.Idx) :
    refLoss tbl u v w j = posSum tbl u v * ((2097152⁻¹ : ℝ) : EReal) + negSum tbl u w * ((10485760⁻¹ : ℝ) : EReal) := by
  refine (congrArg₂ Ideal.div (congrArg₂ (· + ·) (posMean_apply tbl u v hu hv j) (negMean_apply tbl u w hu hw j)) lit_two).trans ?_
  exact weights (posSum_nonneg _ _ _) (negSum_nonneg _ _ _)

end

end Cert.Proof.Ref

end
-- ==== Proof.Equation.lean ====
/-
  The equation: on the same arguments, under the precondition, the kernel and the reference leave the same loss.
-/
module

public import proofs.«01_k».proof.Proof.Frames
public import proofs.«01_k».proof.Proof.ReferenceValue

@[expose] public section

noncomputable section

namespace Cert.Proof

open Idealize.ShloMosaic Idealize.SL.Sem
open Idealize.ShloMosaic.TcCoe

/-- The kernel's result is the two weighted sums. -/
theorem out_eq (m : (ℓ : Loc Cert.KernelIdeal.nD Cert.KernelIdeal.τ Cert.KernelIdeal.sig) → Buf (Elt Ideal) ℓ) (d : Dev Cert.KernelIdeal.nD)
    (j : Cert.KernelIdeal.S_.Idx) :
    outOf (F := Ideal) m d j
      = posSum (tableOf m d) (srcIds m d) (posIds m d) * ((2097152⁻¹ : ℝ) : EReal)
        + negSum (tableOf m d) (srcIds m d) (negIds m d) * ((10485760⁻¹ : ℝ) : EReal) := by
  unfold outOf shapeCast
  exact loss_rows m d _

variable [Cert.Pre_indices_in_table.Facts]

/-- The kernel's result is the reference's. -/
theorem algebraic : Cert.algebraic_KernelIdeal_ReferenceIdeal := by
  intro m g m' g' h hm
  refine ⟨fun c => outOf (F := Ideal) m c, ?_, ?_⟩
  · exact (θ_run Cert.KernelIdeal.defs _ _).mono (fun _ e => e.1) (run_ideal m g h)
  · refine (θ_run Cert.ReferenceIdeal.defs _ _).mono (fun r e c => ⟨(e c).1.trans ?_, (e c).2⟩) (Cert.ReferenceIdeal.Value.run (F := Ideal) m' g')
    obtain ⟨h0, h1, h2, h3⟩ := hm c
    obtain ⟨l0, l1, l2⟩ := pre_lt _ _ _ _ (h c)
    refine (Ref.result_eq m' c).trans (funext fun j => ?_)
    rw [h0, h1, h2, h3]
    exact (Ref.refLoss_apply _ _ _ _ l0 l1 l2 j).trans (out_eq m c j).symm

end Cert.Proof

end
-- ==== Proof.lean ====
/-
  The certificate of the node-embedding loss: the frames of the kernel as printed, of its idealization and of the
  reference, the named constant of the idealization, and the equation of the kernel's loss and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts, preFacts,
    letI := preFacts
    ⟨frame_bits, frame_ideal, frame_ref, frame_ref_pre, preserves, algebraic⟩⟩

end Cert.Proof

end
